-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x4096 : Shape := ⟨2, ![512, 4096]⟩
abbrev S8x1024x512 : Shape := ⟨3, ![8, 1024, 512]⟩
abbrev S4096x1024 : Shape := ⟨2, ![4096, 1024]⟩
abbrev S512x1024 : Shape := ⟨2, ![512, 1024]⟩
abbrev S8 : Shape := ⟨1, ![8]⟩
abbrev S16 : Shape := ⟨1, ![16]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S512x512 : Shape := ⟨2, ![512, 512]⟩
abbrev S64x512 : Shape := ⟨2, ![64, 512]⟩
abbrev S64x1024 : Shape := ⟨2, ![64, 1024]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S512x4096, .f32⟩
  | .local _ .vmem, ⟨1, _⟩ => ⟨S8x1024x512, .f32⟩
  | .local _ .vmem, ⟨2, _⟩ => ⟨S4096x1024, .bf16⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c0_i32_10 : BitVec 32 := 0#32
  ![v6.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c512_i32_20 : BitVec 32 := 512#32
  ![v6.toNat, 512]
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c1024_i32_29 : BitVec 32 := 1024#32
  ![v6.toNat, 1024]
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c1536_i32_37 : BitVec 32 := 1536#32
  ![v6.toNat, 1536]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c2048_i32_45 : BitVec 32 := 2048#32
  ![v6.toNat, 2048]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c2560_i32_53 : BitVec 32 := 2560#32
  ![v6.toNat, 2560]
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c3072_i32_61 : BitVec 32 := 3072#32
  ![v6.toNat, 3072]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let c3584_i32_69 : BitVec 32 := 3584#32
  ![v6.toNat, 3584]
def k0_dev1 (d0 : Dev nD) : Nat :=
  let c0_i32_73 : BitVec 32 := 0#32
  let c1_i32_70 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v80 : BitVec 32 := Scalar.subi c1_i32_70 v2
  let c2_i32_72 : BitVec 32 := 2#32
  let v81 : BitVec 32 := Scalar.muli v80 c2_i32_72
  let v82 : BitVec 32 := Scalar.addi c0_i32_73 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v83 : BitVec 32 := Scalar.muli v5 c1_i32_74
  let v84 : BitVec 32 := Scalar.addi v82 v83
  v84.toNat
def k0_dev2 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v86 : BitVec 32 := Scalar.muli v2 c2_i32_77
  let v87 : BitVec 32 := Scalar.addi c0_i32_78 v86
  let c1_i32_75 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v85 : BitVec 32 := Scalar.subi c1_i32_75 v5
  let c1_i32_79 : BitVec 32 := 1#32
  let v88 : BitVec 32 := Scalar.muli v85 c1_i32_79
  let v89 : BitVec 32 := Scalar.addi v87 v88
  v89.toNat
def k0_dev3 (d0 : Dev nD) : Nat :=
  let c0_i32_259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_258 : BitVec 32 := 2#32
  let v290 : BitVec 32 := Scalar.muli v2 c2_i32_258
  let v291 : BitVec 32 := Scalar.addi c0_i32_259 v290
  let c1_i32_255 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v289 : BitVec 32 := Scalar.subi c1_i32_255 v5
  let c1_i32_260 : BitVec 32 := 1#32
  let v292 : BitVec 32 := Scalar.muli v289 c1_i32_260
  let v293 : BitVec 32 := Scalar.addi v291 v292
  v293.toNat
def k0_dev4 (d0 : Dev nD) : Nat :=
  let c0_i32_277 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_276 : BitVec 32 := 2#32
  let v311 : BitVec 32 := Scalar.muli v2 c2_i32_276
  let v312 : BitVec 32 := Scalar.addi c0_i32_277 v311
  let c1_i32_273 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v310 : BitVec 32 := Scalar.subi c1_i32_273 v5
  let c1_i32_278 : BitVec 32 := 1#32
  let v313 : BitVec 32 := Scalar.muli v310 c1_i32_278
  let v314 : BitVec 32 := Scalar.addi v312 v313
  v314.toNat
def k0_dev5 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v332 : BitVec 32 := Scalar.muli v2 c2_i32_293
  let v333 : BitVec 32 := Scalar.addi c0_i32_294 v332
  let c1_i32_290 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v331 : BitVec 32 := Scalar.subi c1_i32_290 v5
  let c1_i32_295 : BitVec 32 := 1#32
  let v334 : BitVec 32 := Scalar.muli v331 c1_i32_295
  let v335 : BitVec 32 := Scalar.addi v333 v334
  v335.toNat
def k0_dev6 (d0 : Dev nD) : Nat :=
  let c0_i32_311 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_310 : BitVec 32 := 2#32
  let v353 : BitVec 32 := Scalar.muli v2 c2_i32_310
  let v354 : BitVec 32 := Scalar.addi c0_i32_311 v353
  let c1_i32_307 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v352 : BitVec 32 := Scalar.subi c1_i32_307 v5
  let c1_i32_312 : BitVec 32 := 1#32
  let v355 : BitVec 32 := Scalar.muli v352 c1_i32_312
  let v356 : BitVec 32 := Scalar.addi v354 v355
  v356.toNat
def k0_dev7 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v374 : BitVec 32 := Scalar.muli v2 c2_i32_327
  let v375 : BitVec 32 := Scalar.addi c0_i32_328 v374
  let c1_i32_324 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v373 : BitVec 32 := Scalar.subi c1_i32_324 v5
  let c1_i32_329 : BitVec 32 := 1#32
  let v376 : BitVec 32 := Scalar.muli v373 c1_i32_329
  let v377 : BitVec 32 := Scalar.addi v375 v376
  v377.toNat
def k0_dev8 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v395 : BitVec 32 := Scalar.muli v2 c2_i32_344
  let v396 : BitVec 32 := Scalar.addi c0_i32_345 v395
  let c1_i32_341 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v394 : BitVec 32 := Scalar.subi c1_i32_341 v5
  let c1_i32_346 : BitVec 32 := 1#32
  let v397 : BitVec 32 := Scalar.muli v394 c1_i32_346
  let v398 : BitVec 32 := Scalar.addi v396 v397
  v398.toNat
def k0_dev9 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v416 : BitVec 32 := Scalar.muli v2 c2_i32_361
  let v417 : BitVec 32 := Scalar.addi c0_i32_362 v416
  let c1_i32_358 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v415 : BitVec 32 := Scalar.subi c1_i32_358 v5
  let c1_i32_363 : BitVec 32 := 1#32
  let v418 : BitVec 32 := Scalar.muli v415 c1_i32_363
  let v419 : BitVec 32 := Scalar.addi v417 v418
  v419.toNat
def k0_dev10 (d0 : Dev nD) : Nat :=
  let c0_i32_379 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_378 : BitVec 32 := 2#32
  let v437 : BitVec 32 := Scalar.muli v2 c2_i32_378
  let v438 : BitVec 32 := Scalar.addi c0_i32_379 v437
  let c1_i32_375 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v436 : BitVec 32 := Scalar.subi c1_i32_375 v5
  let c1_i32_380 : BitVec 32 := 1#32
  let v439 : BitVec 32 := Scalar.muli v436 c1_i32_380
  let v440 : BitVec 32 := Scalar.addi v438 v439
  v440.toNat
def k0_dev11 (d0 : Dev nD) : Nat :=
  let c0_i32_404 : BitVec 32 := 0#32
  let c1_i32_400 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v465 : BitVec 32 := Scalar.subi c1_i32_400 v2
  let c2_i32_403 : BitVec 32 := 2#32
  let v466 : BitVec 32 := Scalar.muli v465 c2_i32_403
  let v467 : BitVec 32 := Scalar.addi c0_i32_404 v466
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_405 : BitVec 32 := 1#32
  let v468 : BitVec 32 := Scalar.muli v5 c1_i32_405
  let v469 : BitVec 32 := Scalar.addi v467 v468
  v469.toNat
def k0_off9 (d0 : Dev nD) (c0_i32_410 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v6 : BitVec 32 := Scalar.muli v2 c512_i32
  let v476 : BitVec 32 := Scalar.addi v6 c0_i32_410
  let c0_i32_412 : BitVec 32 := 0#32
  ![v476.toNat, 0]
def k0_dev12 (d0 : Dev nD) : Nat :=
  let c0_i32_435 : BitVec 32 := 0#32
  let c1_i32_431 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v499 : BitVec 32 := Scalar.subi c1_i32_431 v2
  let c2_i32_434 : BitVec 32 := 2#32
  let v500 : BitVec 32 := Scalar.muli v499 c2_i32_434
  let v501 : BitVec 32 := Scalar.addi c0_i32_435 v500
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v502 : BitVec 32 := Scalar.muli v5 c1_i32_436
  let v503 : BitVec 32 := Scalar.addi v501 v502
  v503.toNat
def k0_dev13 (d0 : Dev nD) : Nat :=
  let c0_i32_466 : BitVec 32 := 0#32
  let c1_i32_462 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v533 : BitVec 32 := Scalar.subi c1_i32_462 v2
  let c2_i32_465 : BitVec 32 := 2#32
  let v534 : BitVec 32 := Scalar.muli v533 c2_i32_465
  let v535 : BitVec 32 := Scalar.addi c0_i32_466 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_467 : BitVec 32 := 1#32
  let v536 : BitVec 32 := Scalar.muli v5 c1_i32_467
  let v537 : BitVec 32 := Scalar.addi v535 v536
  v537.toNat
def k0_dev14 (d0 : Dev nD) : Nat :=
  let c0_i32_497 : BitVec 32 := 0#32
  let c1_i32_493 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v567 : BitVec 32 := Scalar.subi c1_i32_493 v2
  let c2_i32_496 : BitVec 32 := 2#32
  let v568 : BitVec 32 := Scalar.muli v567 c2_i32_496
  let v569 : BitVec 32 := Scalar.addi c0_i32_497 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_498 : BitVec 32 := 1#32
  let v570 : BitVec 32 := Scalar.muli v5 c1_i32_498
  let v571 : BitVec 32 := Scalar.addi v569 v570
  v571.toNat
def k0_dev15 (d0 : Dev nD) : Nat :=
  let c0_i32_528 : BitVec 32 := 0#32
  let c1_i32_524 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v601 : BitVec 32 := Scalar.subi c1_i32_524 v2
  let c2_i32_527 : BitVec 32 := 2#32
  let v602 : BitVec 32 := Scalar.muli v601 c2_i32_527
  let v603 : BitVec 32 := Scalar.addi c0_i32_528 v602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_529 : BitVec 32 := 1#32
  let v604 : BitVec 32 := Scalar.muli v5 c1_i32_529
  let v605 : BitVec 32 := Scalar.addi v603 v604
  v605.toNat
def k0_dev16 (d0 : Dev nD) : Nat :=
  let c0_i32_559 : BitVec 32 := 0#32
  let c1_i32_555 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v635 : BitVec 32 := Scalar.subi c1_i32_555 v2
  let c2_i32_558 : BitVec 32 := 2#32
  let v636 : BitVec 32 := Scalar.muli v635 c2_i32_558
  let v637 : BitVec 32 := Scalar.addi c0_i32_559 v636
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_560 : BitVec 32 := 1#32
  let v638 : BitVec 32 := Scalar.muli v5 c1_i32_560
  let v639 : BitVec 32 := Scalar.addi v637 v638
  v639.toNat
def k0_dev17 (d0 : Dev nD) : Nat :=
  let c0_i32_590 : BitVec 32 := 0#32
  let c1_i32_586 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v669 : BitVec 32 := Scalar.subi c1_i32_586 v2
  let c2_i32_589 : BitVec 32 := 2#32
  let v670 : BitVec 32 := Scalar.muli v669 c2_i32_589
  let v671 : BitVec 32 := Scalar.addi c0_i32_590 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_591 : BitVec 32 := 1#32
  let v672 : BitVec 32 := Scalar.muli v5 c1_i32_591
  let v673 : BitVec 32 := Scalar.addi v671 v672
  v673.toNat
def k0_dev18 (d0 : Dev nD) : Nat :=
  let c0_i32_621 : BitVec 32 := 0#32
  let c1_i32_617 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v703 : BitVec 32 := Scalar.subi c1_i32_617 v2
  let c2_i32_620 : BitVec 32 := 2#32
  let v704 : BitVec 32 := Scalar.muli v703 c2_i32_620
  let v705 : BitVec 32 := Scalar.addi c0_i32_621 v704
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_622 : BitVec 32 := 1#32
  let v706 : BitVec 32 := Scalar.muli v5 c1_i32_622
  let v707 : BitVec 32 := Scalar.addi v705 v706
  v707.toNat
def k0_off10 (d0 : Dev nD) (c0_i32_644 : BitVec 32) : Fin 2 → Nat :=
  let c1_i32_632 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v719 : BitVec 32 := Scalar.subi c1_i32_632 v2
  let c512_i32_633 : BitVec 32 := 512#32
  let v720 : BitVec 32 := Scalar.muli v719 c512_i32_633
  let v730 : BitVec 32 := Scalar.addi v720 c0_i32_644
  let c0_i32_645 : BitVec 32 := 0#32
  ![v730.toNat, 0]
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | .hbm, ⟨4, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
The kernel's body as a program of repeated steps.

One device's body is a straight line of about four hundred effects. It is written here as loops over a few
parametrised steps, and the printed body is shown to be that program (`body_eq`), so that each step is reasoned
about once at a symbolic index.
-/
module

public import proofs.«01_k».proof.Proof.Gen.KernelIdeal
public import proofs.«01_k».proof.Proof.Gen.KernelIdeal.Points

@[expose] public section

noncomputable section

namespace Cert.KernelIdeal

open Idealize.ShloMosaic Idealize.ShloMosaic.TcCoe
open Idealize.SL Idealize.SL.Sem
open Facts₀ Facts

variable {F : FTy → Type} [FloatOps F]

/-- The programs a body is. -/
abbrev BProg (F : FTy → Type) [FloatOps F] := Prog (TpuEff nD τ sig (Elt F) Λ₀ .tc) PUnit

/-! ## The rectangles the steps name -/

theorem inbWcol : ∀ (k : Fin 8) a, (![0, 512 * k.val] : Fin 2 → Nat) a + S1024x512.size a ≤ S1024x4096.size a := by decide
theorem inbWslab : ∀ (k : Fin 8) a, (![k.val, 0, 0] : Fin 3 → Nat) a + S1x1024x512.size a ≤ S8x1024x512.size a := by decide
theorem inbDcol : ∀ (k : Fin 8) a, (![0, 512 * k.val] : Fin 2 → Nat) a + S512x512.size a ≤ S512x4096.size a := by decide
theorem inbWrow : ∀ (k : Fin 8) a, (![512 * k.val, 0] : Fin 2 → Nat) a + S512x1024.size a ≤ S4096x1024.size a := by decide
theorem inbRow : ∀ (r : Fin 8) a, (![64 * r.val, 0] : Fin 2 → Nat) a + S64x1024.size a ≤ S512x1024.size a := by decide
theorem inbDrow : ∀ (r : Fin 8) a, (![64 * r.val, 3584] : Fin 2 → Nat) a + S64x512.size a ≤ S512x4096.size a := by decide
theorem inbS8 : ∀ (k : Fin 8) a, (![k.val] : Fin 1 → Nat) a + S1.size a ≤ S8.size a := by decide
theorem inbS16 : ∀ (k : Fin 16) a, (![k.val] : Fin 1 → Nat) a + S1.size a ≤ S16.size a := by decide

/-- Columns `512 k` to `512 k + 511` of the weight shard. -/
abbrev rWcol (k : Fin 8) : Rect S1024x4096 := Rect.unit (s := S1024x4096) ![0, 512 * k.val] S1024x512.size (inbWcol k)
/-- Slab `k` of the staged weights. -/
abbrev rWslab (k : Fin 8) : Rect S8x1024x512 := Rect.unit (s := S8x1024x512) ![k.val, 0, 0] S1x1024x512.size (inbWslab k)
/-- Columns `512 k` to `512 k + 511` of the staged gradient rows. -/
abbrev rDcol (k : Fin 8) : Rect S512x4096 := Rect.unit (s := S512x4096) ![0, 512 * k.val] S512x512.size (inbDcol k)
/-- Rows `512 k` to `512 k + 511` of the transposed weights. -/
abbrev rWrow (k : Fin 8) : Rect S4096x1024 := Rect.unit (s := S4096x1024) ![512 * k.val, 0] S512x1024.size (inbWrow k)
/-- Rows `64 r` to `64 r + 63` of a buffer of half the result's rows. -/
abbrev rRow (r : Fin 8) : Rect S512x1024 := Rect.unit (s := S512x1024) ![64 * r.val, 0] S64x1024.size (inbRow r)
/-- Rows `64 r` to `64 r + 63` of the last 512 columns of the staged gradient rows. -/
abbrev rDrow (r : Fin 8) : Rect S512x4096 := Rect.unit (s := S512x4096) ![64 * r.val, 3584] S64x512.size (inbDrow r)
/-- The whole accumulator as a rectangle. -/
abbrev rAcc : Rect S512x1024 := Rect.unit (s := S512x1024) ![0, 0] S512x1024.size inb_S512x1024_S512x1024_0_0

theorem packedWrow : ∀ k : Fin 8, (rWrow k).PackedRows (EltTy.packing .bf16) := by decide
theorem packedRow : ∀ r : Fin 8, (rRow r).PackedRows (EltTy.packing .bf16) := by decide
theorem wordsRow : ∀ r : Fin 8, (rRow r).WholeWords (EltTy.packing .bf16) := by decide

/-- Where block `k` of the gradient rows a device computes starts. -/
def dyOff (d : Dev nD) (k : Fin 8) : Fin 2 → Nat :=
  match k.val with
  | 0 => k0_off1 d | 1 => k0_off2 d | 2 => k0_off3 d | 3 => k0_off4 d
  | 4 => k0_off5 d | 5 => k0_off6 d | 6 => k0_off7 d | _ => k0_off8 d

theorem dyOff_eq : ∀ (d : Dev nD) (k : Fin 8), dyOff d k = ![512 * (d.val / 2), 512 * k.val] := by decide +kernel

theorem inbDy (d : Dev nD) (k : Fin 8) : ∀ a, dyOff d k a + S512x512.size a ≤ S1024x4096.size a := by
  revert d k; decide +kernel

/-- Block `k` of the gradient rows a device computes, in the gradient shard. -/
abbrev rDy (d : Dev nD) (k : Fin 8) : Rect S1024x4096 := Rect.unit (s := S1024x4096) (dyOff d k) S512x512.size (inbDy d k)

/-- The device chunk `r` of the first exchange is sent to. -/
def yTo (d : Dev nD) (r : Fin 8) : Dev nD :=
  match r.val with
  | 0 => ⟨k0_dev3 d, k0_dev3_lt d⟩ | 1 => ⟨k0_dev4 d, k0_dev4_lt d⟩ | 2 => ⟨k0_dev5 d, k0_dev5_lt d⟩
  | 3 => ⟨k0_dev6 d, k0_dev6_lt d⟩ | 4 => ⟨k0_dev7 d, k0_dev7_lt d⟩ | 5 => ⟨k0_dev8 d, k0_dev8_lt d⟩
  | 6 => ⟨k0_dev9 d, k0_dev9_lt d⟩ | _ => ⟨k0_dev10 d, k0_dev10_lt d⟩

/-- The device chunk `r` of the second exchange is sent to. -/
def xTo (d : Dev nD) (r : Fin 8) : Dev nD :=
  match r.val with
  | 0 => ⟨k0_dev11 d, k0_dev11_lt d⟩ | 1 => ⟨k0_dev12 d, k0_dev12_lt d⟩ | 2 => ⟨k0_dev13 d, k0_dev13_lt d⟩
  | 3 => ⟨k0_dev14 d, k0_dev14_lt d⟩ | 4 => ⟨k0_dev15 d, k0_dev15_lt d⟩ | 5 => ⟨k0_dev16 d, k0_dev16_lt d⟩
  | 6 => ⟨k0_dev17 d, k0_dev17_lt d⟩ | _ => ⟨k0_dev18 d, k0_dev18_lt d⟩

/-! ## The buffers and semaphores -/

abbrev mDy : Memref sig .tc .hbm S1024x4096 .f32 := Memref.whole main_arg0
abbrev mW : Memref sig .tc .hbm S1024x4096 .f32 := Memref.whole main_arg1
abbrev mOut : Memref sig .tc .hbm S1024x1024 .bf16 := Memref.whole main_v1
abbrev mD : Memref sig .tc .vmem S512x4096 .f32 := Memref.whole cc0_scratch0
abbrev mWs : Memref sig .tc .vmem S8x1024x512 .f32 := Memref.whole cc0_scratch1
abbrev mWt : Memref sig .tc .vmem S4096x1024 .bf16 := Memref.whole cc0_scratch2
abbrev mAcc : Memref sig .tc .vmem S512x1024 .f32 := Memref.whole cc0_scratch3
abbrev mPv : Memref sig .tc .vmem S512x1024 .bf16 := Memref.whole cc0_scratch4
abbrev mYr : Memref sig .tc .vmem S512x1024 .bf16 := Memref.whole cc0_scratch5
abbrev mXs : Memref sig .tc .vmem S512x1024 .bf16 := Memref.whole cc0_scratch6
abbrev mXr : Memref sig .tc .vmem S512x1024 .bf16 := Memref.whole cc0_scratch7

/-- Entry `k` of an array of eight DMA semaphores. -/
abbrev at8 (A : DmaSems sig S8) (k : Fin 8) : DmaSem sig :=
  ((A.slice (Rect.unit (s := S8) ![k.val] S1.size (inbS8 k))).squeeze S_ squeezes_S1_S_).sem
/-- Entry `k` of the array of sixteen DMA semaphores. -/
abbrev at16 (A : DmaSems sig S16) (k : Fin 16) : DmaSem sig :=
  ((A.slice (Rect.unit (s := S16) ![k.val] S1.size (inbS16 k))).squeeze S_ squeezes_S1_S_).sem

abbrev barS : Sem sig := (SemArray.scalar (sig.barrier 0 rfl) : Sems sig S_).sem

/-- Slab `k` of the staged weights, as the matrix a copy fills. -/
abbrev mWslab (k : Fin 8) : Memref sig .tc .vmem S1024x512 .f32 :=
  (mWs.slice (rWslab k) (fun _ => rfl)).squeeze S1024x512 squeezes_S1x1024x512_S1024x512

/-! ## The steps -/

/-- `f 0`, then `f 1`, …, then `k`. -/
def seqN : (n : Nat) → (Fin n → BProg F → BProg F) → BProg F → BProg F
  | 0, _, k => k
  | n + 1, f, k => f 0 (seqN n (fun i => f i.succ) k)

/-- Start fetching weight block `k` and gradient block `k`. -/
def startStep (d : Dev nD) (i : Fin 8) (k : BProg F) : BProg F :=
  .op (.enqueueDma (mW.slice (rWcol i) (fun _ => rfl)) (.here (mWslab i)) (.dma (at8 cc0_scratch9 i)) (View.wordExact_bits rfl) ((View.wordExact_bits rfl).reshape _ _) ⟨Or.inl rfl, trivial⟩) fun _ =>
  .op (.enqueueDma (mDy.slice (rDy d i) (fun _ => rfl)) (.here (mD.slice (rDcol i) (fun _ => rfl))) (.dma (at8 cc0_scratch8 i)) (View.wordExact_bits rfl) (View.wordExact_bits rfl) ⟨Or.inl rfl, trivial⟩) fun _ => k

/-- Tell both peers that this device's receive buffers may be written. -/
def signals (d : Dev nD) (k : BProg F) : BProg F :=
  (semSignalWord (τ := τ) (Val := Elt F) (Λ := Λ₀) (⟨k0_dev1 d, k0_dev1_lt d⟩ : Dev nD) barS 1#32).bind fun _ =>
  (semSignalWord (τ := τ) (Val := Elt F) (Λ := Λ₀) (⟨k0_dev2 d, k0_dev2_lt d⟩ : Dev nD) barS 1#32).bind fun _ => k

/-- A slab of staged weights, narrowed and transposed. -/
abbrev tr (v : Vec F S1x1024x512 .f32) : FVec F S512x1024 .bf16 :=
  shapeCast S512x1024 (transpose S512x1024 [1, 0] (truncf .bf16 (shapeCast S1024x512 v shapeCasts_S1x1024x512_S1024x512) bitsLt_bf16_f32) transposes_S1024x512_p1_0_S512x1024) shapeCasts_S512x1024_S512x1024

/-- The product of one block of gradient columns with one block of transposed weights. -/
abbrev mm (x : Vec F S512x512 .f32) (w : Vec F S512x1024 .bf16) : FVec F S512x1024 .f32 :=
  matmul dot_S512x512_S512x1024_S512x1024_1_0_0_1_n_n none (truncf .bf16 x bitsLt_bf16_f32) w (constant S512x1024 .f32 0x00000000#32)

/-- The same product for 64 rows. -/
abbrev mm64 (x : Vec F S64x512 .f32) (w : Vec F S512x1024 .bf16) : FVec F S64x1024 .f32 :=
  matmul dot_S64x512_S512x1024_S64x1024_1_0_0_1_n_n none (truncf .bf16 x bitsLt_bf16_f32) w (constant S64x1024 .f32 0x00000000#32)

/-- Wait for weight block `i` and store it transposed. -/
def trStep (i : Fin 8) (k : BProg F) : BProg F :=
  .op (.waitDma2 (at8 cc0_scratch9 i) (mW.slice (rWcol i) (fun _ => rfl)) (mWslab i) (View.wordExact_bits rfl) ((View.wordExact_bits rfl).reshape _ _)) fun _ =>
  .op (.load mWs (rWslab i).toLoadRect (View.loadsAt_vmem h_S1x1024x512)) fun v =>
  .op (.load mWt (rWrow i).toLoadRect (View.loadsAt_vmem h_S512x1024)) fun _ =>
  .op (.store mWt (rWrow i) (tr v) Finset.univ (View.stores_vmem h_S512x1024 ((Memref.isWhole_whole _).storeExact_slice rfl _ (packedWrow i)) (fun _ => rfl)) (.inl rfl)) fun _ => k

/-- Wait for gradient block `i`. -/
def dyWait (d : Dev nD) (i : Fin 8) (k : BProg F) : BProg F :=
  .op (.waitDma2 (at8 cc0_scratch8 i) (mDy.slice (rDy d i) (fun _ => rfl)) (mD.slice (rDcol i) (fun _ => rfl)) (View.wordExact_bits rfl) (View.wordExact_bits rfl)) fun _ => k

/-- The first block of the contraction: the accumulator is set. -/
def gemm0 (d : Dev nD) (k : BProg F) : BProg F :=
  trStep 0 <| dyWait d 0 <|
  .op (.load mD (rDcol 0).toLoadRect (View.loadsAt_vmem h_S512x512)) fun x =>
  .op (.load mWt (rWrow 0).toLoadRect (View.loadsAt_vmem h_S512x1024)) fun w =>
  .op (.load mAcc rAcc.toLoadRect (View.loadsAt_vmem h_S512x1024)) fun _ =>
  .op (.store mAcc rAcc (shapeCast S512x1024 (mm x w) shapeCasts_S512x1024_S512x1024) Finset.univ (View.stores_vmem_bits_univ h_S512x1024 rfl) (.inl rfl)) fun _ => k

/-- A later block of the contraction: the accumulator is added to. -/
def gemmStep (d : Dev nD) (i : Fin 8) (k : BProg F) : BProg F :=
  trStep i <| dyWait d i <|
  .op (.load mD (rDcol i).toLoadRect (View.loadsAt_vmem h_S512x512)) fun x =>
  .op (.load mWt (rWrow i).toLoadRect (View.loadsAt_vmem h_S512x1024)) fun w =>
  .op (.load mAcc rAcc.toLoadRect (View.loadsAt_vmem h_S512x1024)) fun a =>
  .op (.load mAcc rAcc.toLoadRect (View.loadsAt_vmem h_S512x1024)) fun _ =>
  .op (.store mAcc rAcc (shapeCast S512x1024 (addf a (mm x w)) shapeCasts_S512x1024_S512x1024) Finset.univ (View.stores_vmem_bits_univ h_S512x1024 rfl) (.inl rfl)) fun _ => k

/-- Wait for both peers. -/
def barWait (k : BProg F) : BProg F :=
  (semWaitWord (nD := nD) (τ := τ) (Val := Elt F) (Λ := Λ₀) barS 2#32).bind fun _ => k

/-- The last block of the contraction for chunk `r`, sent to `t`. -/
def sendStep (t : Dev nD) (r : Fin 8) (k : BProg F) : BProg F :=
  .op (.load mD (rDrow r).toLoadRect (View.loadsAt_vmem h_S64x512)) fun x =>
  .op (.load mWt (rWrow 7).toLoadRect (View.loadsAt_vmem h_S512x1024)) fun w =>
  .op (.load mAcc (rRow r).toLoadRect (View.loadsAt_vmem h_S64x1024)) fun a =>
  .op (.load mPv (rRow r).toLoadRect (View.loadsAt_vmem h_S64x1024)) fun _ =>
  .op (.store mPv (rRow r) (shapeCast S64x1024 (truncf .bf16 (addf a (mm64 x w)) bitsLt_bf16_f32) shapeCasts_S64x1024_S64x1024) Finset.univ (View.stores_vmem h_S64x1024 ((Memref.isWhole_whole _).storeExact_slice rfl _ (packedRow r)) (fun _ => rfl)) (.inl rfl)) fun _ =>
  .op (.enqueueDma (mPv.slice (rRow r) (fun _ => rfl)) (.remote (Dev.tc t) (mYr.slice (rRow r) (fun _ => rfl)) (.dma (at8 cc0_scratch11 r))) (.dma (at8 cc0_scratch12 r)) ((Memref.isWhole_whole _).wordExact_slice rfl _ (wordsRow r)) ((Memref.isWhole_whole _).wordExact_slice rfl _ (wordsRow r)) ⟨⟨rfl, Or.inl rfl⟩, trivial⟩) fun _ => k

/-- The chunk of the result's own half: row `r` of the result this device computes. -/
abbrev rOwn (d : Dev nD) (r : Fin 8) : Rect S1024x1024 := Rect.unit (s := S1024x1024) (k0_off9 d (BitVec.ofNat 32 (64 * r.val))) S64x1024.size (k0_off9_inb d r)
/-- The chunk of the result's other half. -/
abbrev rOther (d : Dev nD) (r : Fin 8) : Rect S1024x1024 := Rect.unit (s := S1024x1024) (k0_off10 d (BitVec.ofNat 32 (64 * r.val))) S64x1024.size (k0_off10_inb d r)

/-- The sum of the two halves of the contraction for one chunk. -/
abbrev red (p y : Vec F S64x1024 .bf16) : FVec F S64x1024 .bf16 :=
  shapeCast S64x1024 (truncf .bf16 (addf (extf .f32 p bitsLt_bf16_f32) (extf .f32 y bitsLt_bf16_f32)) bitsLt_bf16_f32) shapeCasts_S64x1024_S64x1024

/-- Chunk `r`: wait for the peer's half of the contraction, add it, send the sum to `t` and store it. -/
def redStep (d t : Dev nD) (r : Fin 8) (k : BProg F) : BProg F :=
  .op (.waitDma2 (at8 cc0_scratch12 r) (mPv.slice (rRow r) (fun _ => rfl)) (mYr.slice (rRow r) (fun _ => rfl)) ((Memref.isWhole_whole _).wordExact_slice rfl _ (wordsRow r)) ((Memref.isWhole_whole _).wordExact_slice rfl _ (wordsRow r))) fun _ =>
  .op (.load mPv (rRow r).toLoadRect (View.loadsAt_vmem h_S64x1024)) fun p =>
  .op (.load mYr (rRow r).toLoadRect (View.loadsAt_vmem h_S64x1024)) fun y =>
  .op (.load mXs (rRow r).toLoadRect (View.loadsAt_vmem h_S64x1024)) fun _ =>
  .op (.store mXs (rRow r) (red p y) Finset.univ (View.stores_vmem h_S64x1024 ((Memref.isWhole_whole _).storeExact_slice rfl _ (packedRow r)) (fun _ => rfl)) (.inl rfl)) fun _ =>
  .op (.enqueueDma (mXs.slice (rRow r) (fun _ => rfl)) (.remote (Dev.tc t) (mXr.slice (rRow r) (fun _ => rfl)) (.dma (at8 cc0_scratch13 r))) (.dma (at8 cc0_scratch14 r)) ((Memref.isWhole_whole _).wordExact_slice rfl _ (wordsRow r)) ((Memref.isWhole_whole _).wordExact_slice rfl _ (wordsRow r)) ⟨⟨rfl, Or.inl rfl⟩, trivial⟩) fun _ =>
  .op (.enqueueDma (mXs.slice (rRow r) (fun _ => rfl)) (.here (mOut.slice (rOwn d r) (fun _ => rfl))) (.dma (at16 cc0_scratch10 (r.castLE (by decide)))) ((Memref.isWhole_whole _).wordExact_slice rfl _ (wordsRow r)) ((Memref.isWhole_whole _).wordExact_slice rfl _ (k0_off9_wordsbf16 d r)) ⟨Or.inl rfl, trivial⟩) fun _ => k

/-- Chunk `r`: wait for the other half of the result and store it. -/
def xStep (d : Dev nD) (r : Fin 8) (k : BProg F) : BProg F :=
  .op (.waitDma2 (at8 cc0_scratch14 r) (mXs.slice (rRow r) (fun _ => rfl)) (mXr.slice (rRow r) (fun _ => rfl)) ((Memref.isWhole_whole _).wordExact_slice rfl _ (wordsRow r)) ((Memref.isWhole_whole _).wordExact_slice rfl _ (wordsRow r))) fun _ =>
  .op (.enqueueDma (mXr.slice (rRow r) (fun _ => rfl)) (.here (mOut.slice (rOther d r) (fun _ => rfl))) (.dma (at16 cc0_scratch10 (r.natAdd 8))) ((Memref.isWhole_whole _).wordExact_slice rfl _ (wordsRow r)) ((Memref.isWhole_whole _).wordExact_slice rfl _ (k0_off10_wordsbf16 d r)) ⟨Or.inl rfl, trivial⟩) fun _ => k

/-- Wait for one of the sixteen copies to the result. -/
def outWait (i : Fin 16) (k : BProg F) : BProg F :=
  .op (.waitDma2 (at16 cc0_scratch10 i) (mXs.slice (Rect.unit (s := S512x1024) ![0, 0] S64x1024.size inb_S512x1024_S64x1024_0_0) (fun _ => rfl)) (mOut.slice (Rect.unit (s := S1024x1024) ![0, 0] S64x1024.size inb_S1024x1024_S64x1024_0_0) (fun _ => rfl)) ((Memref.isWhole_whole _).wordExact_slice rfl _ wordsbf16_S512x1024_S64x1024_0_0) ((Memref.isWhole_whole _).wordExact_slice rfl _ wordsbf16_S1024x1024_S64x1024_0_0)) fun _ => k

/-- Wait for the two sends of chunk `r`. -/
def sendWait (r : Fin 8) (k : BProg F) : BProg F :=
  .op (.waitDma2 (at8 cc0_scratch11 r) (mYr.slice (rRow r) (fun _ => rfl)) (mPv.slice (rRow r) (fun _ => rfl)) ((Memref.isWhole_whole _).wordExact_slice rfl _ (wordsRow r)) ((Memref.isWhole_whole _).wordExact_slice rfl _ (wordsRow r))) fun _ =>
  .op (.waitDma2 (at8 cc0_scratch13 r) (mXr.slice (rRow r) (fun _ => rfl)) (mXs.slice (rRow r) (fun _ => rfl)) ((Memref.isWhole_whole _).wordExact_slice rfl _ (wordsRow r)) ((Memref.isWhole_whole _).wordExact_slice rfl _ (wordsRow r))) fun _ => k

/-- A device's whole body, once it knows which device it is. -/
def prog (d : Dev nD) : BProg F :=
  seqN 8 (startStep d) <| signals d <| gemm0 d <| seqN 6 (fun i => gemmStep d (i.castSucc.succ)) <|
  trStep 7 <| dyWait d 7 <| barWait <|
  seqN 8 (fun r => sendStep (yTo d r) r) <| seqN 8 (fun r => redStep d (xTo d r) r) <|
  seqN 8 (xStep d) <| seqN 8 (fun i => outWait (i.castLE (by decide))) <|
  seqN 8 (fun i => outWait (i.natAdd 8)) <| seqN 8 sendWait <| .ret ⟨⟩

set_option maxRecDepth 100000 in
set_option maxHeartbeats 4000000 in
theorem body_eq (t : Fin cfg0.N) :
    Gen.bodyAt0 (F := F) t = .op .deviceId fun d => prog d := rfl

end Cert.KernelIdeal
-- ==== Proof.Protocol.lean ====
/-
The protocol: what every semaphore of the kernel is for, what each signal or transfer hands over, and the contents
that are handed over.

Device `c` sits at `(c / 2, c % 2)` of the mesh. Both devices with the same `c / 2` compute the same half of the
result's rows, each over its own half of the contraction; both devices with the same `c % 2` need both halves of the
rows. `yp c` is the device that shares `c`'s rows, `xp c` the one that shares `c`'s half of the contraction.

* The barrier semaphore of `c` is signalled once by `xp c`, which hands over its buffer for chunks of the other half of
  the rows, and once by `yp c`, which hands over its buffer for partial sums. `c` waits for both.
* For every chunk `r` of 64 rows: `c` sends its partial sums to `yp c` (semaphore `ys r` of `c` counts the reads of the
  source, semaphore `yr r` of `yp c` the arrival), adds what it receives to its own, and sends the sum to `xp c`
  (semaphores `xs r` and `xr r`).
* All other copies stay on one device and have a semaphore each.

A device waits for local copies while it owes everything, for the barrier while it owes its sends, for `yr` while it
owes the second exchange, and for `xr` while it owes nothing; the levels are 0, 1, 2 and 3.
-/
module

public import proofs.«01_k».proof.Proof.Prog
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Memref
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the semaphores' rounds live. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

/-! ## The peers -/

theorem xp_lt : ∀ c : Fin 4, (c.val % 2 + 2) - 2 * (c.val / 2) < 4 := by decide
theorem yp_lt : ∀ c : Fin 4, (2 * (c.val / 2) + 1) - c.val % 2 < 4 := by decide
/-- The device with the same half of the contraction and the other half of the rows. -/
def xp (c : Dev nD) : Dev nD := ⟨(c.val % 2 + 2) - 2 * (c.val / 2), xp_lt c⟩
/-- The device with the same half of the rows and the other half of the contraction. -/
def yp (c : Dev nD) : Dev nD := ⟨(2 * (c.val / 2) + 1) - c.val % 2, yp_lt c⟩

theorem xp_xp : ∀ c : Dev nD, xp (xp c) = c := by decide
theorem yp_yp : ∀ c : Dev nD, yp (yp c) = c := by decide
theorem xp_ne_yp : ∀ c : Dev nD, xp c ≠ yp c := by decide
def xpE : Dev nD ≃ Dev nD := ⟨xp, xp, xp_xp, xp_xp⟩
def ypE : Dev nD ≃ Dev nD := ⟨yp, yp, yp_yp, yp_yp⟩

theorem dev1_eq (c : Dev nD) : (⟨k0_dev1 c, k0_dev1_lt c⟩ : Dev nD) = xp c := Fin.ext (Gen.k0_dev1_eq c)
theorem dev2_eq (c : Dev nD) : (⟨k0_dev2 c, k0_dev2_lt c⟩ : Dev nD) = yp c := Fin.ext (Gen.k0_dev2_eq c)
theorem yTo_eq : ∀ (c : Dev nD) (r : Fin 8), yTo c r = yp c := by decide +kernel
theorem xTo_eq : ∀ (c : Dev nD) (r : Fin 8), xTo c r = xp c := by decide +kernel

/-! ## The semaphores -/

theorem sm_lt : ∀ j r : Fin 8, 8 * j.val + r.val < 64 := by decide
/-- DMA semaphore `r` of group `j`: gradients, weights, result (own half), result (other half), and the four of the exchanges. -/
def sm (j r : Fin 8) : DmaSem sig := ⟨8 * j.val + r.val, sm_lt j r⟩

theorem at8_8 : ∀ r, at8 cc0_scratch8 r = sm 0 r := by decide +kernel
theorem at8_9 : ∀ r, at8 cc0_scratch9 r = sm 1 r := by decide +kernel
theorem at16_lo : ∀ r : Fin 8, at16 cc0_scratch10 (r.castLE (by decide)) = sm 2 r := by decide +kernel
theorem at16_hi : ∀ r : Fin 8, at16 cc0_scratch10 (r.natAdd 8) = sm 3 r := by decide +kernel
theorem at8_11 : ∀ r, at8 cc0_scratch11 r = sm 4 r := by decide +kernel
theorem at8_12 : ∀ r, at8 cc0_scratch12 r = sm 5 r := by decide +kernel
theorem at8_13 : ∀ r, at8 cc0_scratch13 r = sm 6 r := by decide +kernel
theorem at8_14 : ∀ r, at8 cc0_scratch14 r = sm 7 r := by decide +kernel

/-- The semaphores two devices share: the barrier, and the four groups of the exchanges. -/
abbrev Key := Option (Fin 4 × Fin 8)

def grp : Fin 4 → Fin 8 := fun j => j.natAdd 4
/-- Where a shared semaphore lies. -/
def keySem : Key → SemLoc sig
  | none => .reg barS
  | some (j, r) => .dma (sm (grp j) r)
/-- Which shared semaphore lies here. -/
def semKey : SemLoc sig → Option Key
  | .reg _ => some none
  | .dma q => if 32 ≤ q.val then some (some (Fin.ofNat 4 (q.val / 8 - 4), Fin.ofNat 8 (q.val % 8))) else none

theorem semKey_keySem : ∀ k, semKey (keySem k) = some k := by decide +kernel
theorem semKey_local : ∀ (j : Fin 4) (r : Fin 8), semKey (.dma (sm (j.castLE (by decide)) r)) = none := by decide +kernel
theorem keySem_inj : Function.Injective keySem := fun a b h =>
  Option.some.inj ((semKey_keySem a).symm.trans ((congrArg semKey h).trans (semKey_keySem b)))

abbrev cell (c : Dev nD) (k : Key) : GSem nD τ sig := ((c : Thread nD τ), keySem k)
abbrev kYs (r : Fin 8) : Key := some (0, r)
abbrev kYr (r : Fin 8) : Key := some (1, r)
abbrev kXs (r : Fin 8) : Key := some (2, r)
abbrev kXr (r : Fin 8) : Key := some (3, r)

/-! ## Holding a buffer -/

/-- Device `d` holds `m` at `X`. -/
abbrev has (d : Dev nD) {sp : Space} {sh : Shape} {e : EltTy} (m : Memref sig .tc sp sh e) (q : PosShare TreeShare)
    (X : sh.Idx → Elt F e) : sProp 𝕄 :=
  owns (Ix := Unit) (Name := ℕ) (U := UU) (Lvl := ℕ) (d.tc : Thread nD τ) m q X
variable (F) in
/-- Device `d` holds all of `m`, whatever is in it. -/
def any (d : Dev nD) {sp : Space} {sh : Shape} {e : EltTy} (m : Memref sig .tc sp sh e) : sProp 𝕄 :=
  iprop(∃ X : sh.Idx → Elt F e, has d m fullShare X)

instance any_storable (d : Dev nD) {sp : Space} {sh : Shape} {e : EltTy} (m : Memref sig .tc sp sh e) :
    BI.Storable (upEmb : UEmb _ 𝕄) (any F d m) := by unfold any; infer_instance

theorem any_intro (d : Dev nD) {sp : Space} {sh : Shape} {e : EltTy} (m : Memref sig .tc sp sh e) (X : sh.Idx → Elt F e) :
    has d m fullShare X ⊢ any F d m := by
  unfold any; iintro H; iexists X; iexact H

abbrev hL : PosShare TreeShare := fullShare.left
abbrev hR : PosShare TreeShare := fullShare.right

/-- Rows `64 r` to `64 r + 63` of a half-height buffer. -/
abbrev rowOf {sp : Space} {e : EltTy} (m : Memref sig .tc sp S512x1024 e) (r : Fin 8) : Memref sig .tc sp S64x1024 e :=
  m.slice (rRow r) (fun _ => rfl)

/-! ## Contents -/

section Contents
variable (m : (ℓ : Loc nD τ sig) → Buf (Elt F) ℓ)

/-- The gradient shard and the weight shard of a device. -/
def dyA (d : Dev nD) : S1024x4096.Idx → Elt F .f32 := m ((d : Thread nD τ).loc main_arg0)
def wA (d : Dev nD) : S1024x4096.Idx → Elt F .f32 := m ((d : Thread nD τ).loc main_arg1)

/-- Block `k` of the gradient rows a device computes. -/
def dyB (d : Dev nD) (k : Fin 8) : Vec F S512x512 .f32 := fun j => dyA m d ((rDy d k).emb j)
/-- Block `k` of the weights, and the same transposed. -/
def wB (d : Dev nD) (k : Fin 8) : Vec F S1024x512 .f32 := fun j => wA m d ((rWcol k).emb j)
def wT (d : Dev nD) (k : Fin 8) : FVec F S512x1024 .bf16 := tr (shapeCast S1x1024x512 (wB m d k) (by decide))

/-- The accumulator after blocks `0` to `n`. -/
def accC (d : Dev nD) : ℕ → FVec F S512x1024 .f32
  | 0 => shapeCast S512x1024 (mm (dyB m d 0) (wT m d 0)) shapeCasts_S512x1024_S512x1024
  | n + 1 => shapeCast S512x1024 (addf (accC d n) (mm (dyB m d (Fin.ofNat 8 (n + 1))) (wT m d (Fin.ofNat 8 (n + 1))))) shapeCasts_S512x1024_S512x1024

theorem inbSub : ∀ (r : Fin 8) a, (![64 * r.val, 0] : Fin 2 → Nat) a + S64x512.size a ≤ S512x512.size a := by decide
/-- Rows `64 r` to `64 r + 63` of a block. -/
abbrev rSub (r : Fin 8) : Rect S512x512 := Rect.unit (s := S512x512) ![64 * r.val, 0] S64x512.size (inbSub r)

/-- Chunk `r` of a device's half of the contraction. -/
def pvC (d : Dev nD) (r : Fin 8) : FVec F S64x1024 .bf16 :=
  shapeCast S64x1024 (truncf .bf16 (addf (fun j => accC m d 6 ((rRow r).emb j)) (mm64 (fun j => dyB m d 7 ((rSub r).emb j)) (wT m d 7))) bitsLt_bf16_f32) shapeCasts_S64x1024_S64x1024
/-- Chunk `r` of the device's half of the result. -/
def xsC (d : Dev nD) (r : Fin 8) : FVec F S64x1024 .bf16 := red (pvC m d r) (pvC m (yp d) r)

end Contents

/-! ## The schedule -/

section Sched
variable (m : (ℓ : Loc nD τ sig) → Buf (Elt F) ℓ)

/-- What one chunk's transfer counts for. -/
abbrev NC : ℕ := (rowOf mPv 0).view.dmaCredit
theorem NC_pos : 0 < NC := View.dmaCredit_pos _ (by decide)

variable (F) in
/-- The barrier signal's payload: from `xp c` (`false`) or `yp c` (`true`), its receive buffer. -/
def barPay (c : Dev nD) : Bool → sProp 𝕄
  | false => bigSep Finset.univ fun r => any F (xp c) (rowOf mXr r)
  | true => bigSep Finset.univ fun r => any F (yp c) (rowOf mYr r)

/-- What the exchanges' semaphores hand over. -/
def pay (c : Dev nD) : Fin 4 × Fin 8 → sProp 𝕄
  | (0, r) => has c (rowOf mPv r) hL (pvC m c r)
  | (1, r) => has c (rowOf mYr r) fullShare (pvC m (yp c) r)
  | (2, r) => has c (rowOf mXs r) hL (xsC m c r)
  | (3, r) => has c (rowOf mXr r) fullShare (xsC m (xp c) r)

instance barPay_storable (c : Dev nD) (b : Bool) : BI.Storable (upEmb : UEmb _ 𝕄) (barPay F c b) := by
  cases b <;> unfold barPay <;> infer_instance
instance pay_storable (c : Dev nD) (k : Fin 4 × Fin 8) : BI.Storable (upEmb : UEmb _ 𝕄) (pay m c k) := by
  obtain ⟨j, r⟩ := k
  unfold pay
  split <;> infer_instance

def dutiesOf : Option Key → Finset Bool
  | some none => Finset.univ
  | some (some _) => {false}
  | none => ∅
def amountOf : Option Key → ℕ
  | some (some _) => NC
  | _ => 1
def payOf (c : Dev nD) : Option Key → Bool → sProp 𝕄
  | some none, d => barPay F c d
  | some (some k), _ => pay m c k
  | none, _ => iprop(emp)

instance payOf_storable (c : Dev nD) (k : Option Key) (b : Bool) : BI.Storable (upEmb : UEmb _ 𝕄) (payOf m c k b) := by
  unfold payOf; split <;> infer_instance

/-- One round: the barrier has two duties of one unit, every other shared semaphore one duty of a chunk's count. -/
def Rd : Rounds.Schedule (GSem nD τ sig) Bool 𝕄 where
  duties g r := if r = 0 ∧ g.1.2 = .tc then dutiesOf (semKey g.2) else ∅
  unitless _ := False
  amount g _ _ := amountOf (semKey g.2)
  payload g _ d := payOf m g.1.1 (semKey g.2) d
  amount_pos g _ _ _ := by
    unfold amountOf; split
    · exact NC_pos
    · exact Nat.one_pos

instance Rd_payload_storable (g : GSem nD τ sig) (r : ℕ) (d : Bool) :
    BI.Storable (upEmb : UEmb _ 𝕄) ((Rd m).payload g r d) := by
  show BI.Storable upEmb (payOf m g.1.1 (semKey g.2) d); infer_instance

variable (c : Dev nD)

theorem duties_cell (k : Key) : (Rd m).duties (cell c k) 0 = dutiesOf (some k) := by
  dsimp only [Rd]; rw [if_pos ⟨rfl, rfl⟩, semKey_keySem]
theorem duties_later (g : GSem nD τ sig) : ∀ r, 1 ≤ r → (Rd m).duties g r = ∅ :=
  fun r hr => by dsimp only [Rd]; exact if_neg fun h => by omega
theorem amount_cell (k : Key) (d : Bool) : (Rd m).amount (cell c k) 0 d = amountOf (some k) := by
  dsimp only [Rd]; rw [semKey_keySem]
theorem payload_cell (k : Key) (d : Bool) : (Rd m).payload (cell c k) 0 d = payOf m c (some k) d := by
  dsimp only [Rd]; rw [semKey_keySem]

theorem expect_bar : (Rd m).expect (cell c none) 0 = 2 := by
  unfold Schedule.expect Schedule.amountOf
  rw [duties_cell, Finset.sum_congr rfl fun d _ => amount_cell m c none d]; rfl
theorem expect_some (k : Fin 4 × Fin 8) : (Rd m).expect (cell c (some k)) 0 = NC := by
  unfold Schedule.expect Schedule.amountOf
  rw [duties_cell, Finset.sum_congr rfl fun d _ => amount_cell m c (some k) d]
  show Finset.sum {false} _ = _
  rw [Finset.sum_singleton]; rfl

theorem rest_bar : bigSep ((Rd m).duties (cell c none) 0 \ ∅) (fun d => (Rd m).payload (cell c none) 0 d)
    = iprop(barPay F c false ∗ barPay F c true) := by
  rw [Finset.sdiff_empty, duties_cell, bigSep_congr (fun d _ => payload_cell m c none d)]
  show bigSep Finset.univ _ = _
  rw [bigSep_univ_eq_bigSepL [false, true] (by decide) (by decide), bigSepL_cons_cons, bigSepL_singleton]
  rfl
theorem rest_some (k : Fin 4 × Fin 8) :
    bigSep ((Rd m).duties (cell c (some k)) 0 \ ∅) (fun d => (Rd m).payload (cell c (some k)) 0 d) = pay m c k := by
  rw [Finset.sdiff_empty, duties_cell, bigSep_congr (fun d _ => payload_cell m c (some k) d)]
  show bigSep {false} _ = _
  rw [bigSep_singleton]; rfl

end Sched

/-! ## What each device owes; the levels -/

/-- What is left to pay of eight debts once the first `i` are paid. -/
def rem (f : Fin 8 → CellTallies nD τ sig Unit) (i : ℕ) : CellTallies nD τ sig Unit :=
  ∑ r ∈ Finset.univ.filter (fun r : Fin 8 => i ≤ r.val), f r

theorem rem_eight (f : Fin 8 → CellTallies nD τ sig Unit) : rem f 8 = 0 := by
  unfold rem
  rw [show (Finset.univ.filter fun r : Fin 8 => 8 ≤ r.val) = ∅ from by decide]; rfl
theorem rem_zero (f : Fin 8 → CellTallies nD τ sig Unit) : rem f 0 = ∑ r, f r := by
  unfold rem
  rw [show (Finset.univ.filter fun r : Fin 8 => 0 ≤ r.val) = Finset.univ from by decide]
theorem filter_le (i : Fin 8) : (Finset.univ.filter fun r : Fin 8 => i.val ≤ r.val)
    = insert i (Finset.univ.filter fun r : Fin 8 => i.val + 1 ≤ r.val) := by revert i; decide
theorem rem_peel (f : Fin 8 → CellTallies nD τ sig Unit) (i : Fin 8) : rem f i.val = rem f (i.val + 1) + f i := by
  unfold rem
  rw [filter_le i, Finset.sum_insert (by simp), add_comm]

theorem sum_pos {f : Fin 8 → CellTallies nD τ sig Unit} {S : Finset (Fin 8)} {g : GSem nD τ sig} {u : Unit}
    (h : 0 < (∑ r ∈ S, f r) g u) : ∃ r, 0 < f r g u := by
  classical
  induction S using Finset.induction_on with
  | empty => exact absurd h (Nat.lt_irrefl 0)
  | insert a S ha ih =>
    rw [Finset.sum_insert ha, Pi.add_apply, Finsupp.add_apply] at h
    rcases Nat.eq_zero_or_pos (f a g u) with h0 | h0
    · rw [h0, Nat.zero_add] at h; exact ih h
    · exact ⟨a, h0⟩

/-- The arrivals of the first exchange device `c` still owes its peer, and those of the second. -/
abbrev owedY (c : Dev nD) (i : ℕ) := rem (fun r => tallyAt (cell (yp c) (kYr r)) () NC) i
abbrev owedX (c : Dev nD) (i : ℕ) := rem (fun r => tallyAt (cell (xp c) (kXr r)) () NC) i
/-- What a device owes at launch. -/
def O₀ (c : Dev nD) : CellTallies nD τ sig Unit :=
  ((owedX c 0 + owedY c 0) + tallyAt (cell (yp c) none) () 1) + tallyAt (cell (xp c) none) () 1

def L (g : GSem nD τ sig) : Finset Unit := if g.1.2 = .tc then {()} else ∅
def lvOf : Option Key → ℕ
  | some none => 1
  | some (some (1, _)) => 2
  | some (some (3, _)) => 3
  | _ => 0
def lv (g : GSem nD τ sig) (_ : Unit) : ℕ := lvOf (semKey g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Key) : lv (cell c k) () = lvOf (some k) := by unfold lv; rw [semKey_keySem]

theorem tally_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h; omega

/-- Every unit owed is to a semaphore of some device, above level `b`. -/
def Above (b : ℕ) (O : CellTallies nD τ sig Unit) : Prop :=
  ∀ g u, 0 < O g u → g.1.2 = .tc ∧ b < lv g u

theorem above_zero (b : ℕ) : Above b 0 := fun _ _ h => absurd h (Nat.lt_irrefl 0)
theorem above_add {b : ℕ} {A B : CellTallies nD τ sig Unit} (hA : Above b A) (hB : Above b B) : Above b (A + B) :=
  fun g u h => (add_pos h).elim (hA g u) (hB g u)
theorem above_tally {b : ℕ} (c : Dev nD) (k : Key) (n : ℕ) (h : b < lvOf (some k)) : Above b (tallyAt (cell c k) () n) :=
  fun g u hg => by rw [tally_pos hg]; exact ⟨rfl, (lv_cell c k).symm ▸ h⟩
theorem above_owedY {b : ℕ} (hb : b < 2) (c : Dev nD) (i : ℕ) : Above b (owedY c i) := fun g u h => by
  obtain ⟨r, hr⟩ := sum_pos h
  exact above_tally (yp c) (kYr r) NC hb g u hr
theorem above_owedX {b : ℕ} (hb : b < 3) (c : Dev nD) (i : ℕ) : Above b (owedX c i) := fun g u h => by
  obtain ⟨r, hr⟩ := sum_pos h
  exact above_tally (xp c) (kXr r) NC hb g u hr

/-- A device may wait at a semaphore below everything it owes. -/
theorem mayWait (c : Dev nD) (s : SemLoc sig) (O : CellTallies nD τ sig Unit) (b : ℕ) (hs : lvOf (semKey s) ≤ b) (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by
      unfold L; rw [if_pos (hO g u hg).1]; exact Finset.mem_singleton_self _)
    (fun p hp => by rw [Finset.mem_singleton.mp hp]; exact hs)
    (fun g u hg => (hO g u hg).2)

end Cert.KernelIdeal
-- ==== Proof.Rules.lean ====
/-
The rules the body is run by: a load, a store, a copy on one device, a transfer to another, and the waits, each stated
of held buffers at known contents; and the rule for a repeated step.
-/
module

public import proofs.«01_k».proof.Proof.Protocol

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

abbrev 𝒱₀ : Variants := Variants.none

/-- Device `c` runs `p` to `Q`. -/
abbrev Runs (c : Dev nD) (p : BProg F) (Q : PUnit → sProp 𝕄) : sProp 𝕄 :=
  wp frame (wpE (defs₀ (F := F)) 𝒱₀ (c.tc : Thread nD τ) none) Set.univ p Q

variable (m : (ℓ : Loc nD τ sig) → Buf (Elt F) ℓ)

/-! ## What every device knows -/

/-- The shared semaphores' invariants, that each is open, and the levels. -/
def recs (κ : Dev nD × Key → ℕ) : sProp 𝕄 :=
  iprop((bigSep Finset.univ fun ck : Dev nD × Key => cellInv ER (Rd m) (κ ck) (cell ck.1 ck.2))
    ∗ (bigSep Finset.univ fun ck : Dev nD × Key => reached ER (cell ck.1 ck.2) 0) ∗ levAts L lv)

instance recs_persistent (κ : Dev nD × Key → ℕ) : BI.Persistent (recs m κ) := by unfold recs; infer_instance

theorem recs_inv (κ : Dev nD × Key → ℕ) (c : Dev nD) (k : Key) : recs m κ ⊢ cellInv ER (Rd m) (κ (c, k)) (cell c k) := by
  unfold recs; iintro ⟨H, -, -⟩
  iapply (show bigSep Finset.univ (fun ck : Dev nD × Key => (cellInv ER (Rd m) (κ ck) (cell ck.1 ck.2) : sProp 𝕄)) ⊢ cellInv ER (Rd m) (κ (c, k)) (cell c k)
    from bigSep_elim (Finset.mem_univ (c, k))) $$ H
theorem recs_reached (κ : Dev nD × Key → ℕ) (c : Dev nD) (k : Key) : recs m κ ⊢ reached ER (cell c k) 0 := by
  unfold recs; iintro ⟨-, H, -⟩
  iapply (show bigSep Finset.univ (fun ck : Dev nD × Key => (reached ER (cell ck.1 ck.2) 0 : sProp 𝕄)) ⊢ reached ER (cell c k) 0
    from bigSep_elim (Finset.mem_univ (c, k))) $$ H
theorem recs_lev (κ : Dev nD × Key → ℕ) : recs m κ ⊢ levAts L lv := by
  unfold recs; iintro ⟨-, -, H⟩; iexact H

/-- What a device owes, whatever it has waited for. -/
def debt (c : Dev nD) (O : CellTallies nD τ sig Unit) : sProp 𝕄 := iprop(∃ W, owes (c.tc : Thread nD τ) O W)

/-! ## Loads and stores -/

variable (c : Dev nD) {Q : PUnit.{1} → sProp (MT nD τ sig Unit (Elt F) ℕ UU ℕ)}

theorem access_subset {cs : CoreSpace} {s : Shape} {e : EltTy} {M : Memref sig .tc cs s e} {r r' : Rect s}
    {hr' : ∀ a, r'.stride a = 1} (g : r.shape.Idx → r'.shape.Idx) (hg : ∀ j, r.emb j = r'.emb (g j)) :
    (M.access r).set ⊆ (M.slice r' hr').view.set := by
  intro i hi
  rw [View.set, Finset.mem_map] at hi ⊢
  obtain ⟨x, -, rfl⟩ := hi
  exact ⟨g x, Finset.mem_univ _, (congrArg M.view.emb (hg x)).symm⟩

/-- A load of a part of a held rectangle. -/
theorem wp_load_has {cs : CoreSpace} {s : Shape} {e : EltTy} {M : Memref sig .tc cs s e} {r r' : Rect s}
    {hr' : ∀ a, r'.stride a = 1} {hl : M.view.LoadsAt r.toLoadRect} {k : (r.shape.Idx → Elt F e) → BProg F}
    {q : PosShare TreeShare} {X : r'.shape.Idx → Elt F e} (g : r.shape.Idx → r'.shape.Idx) (hg : ∀ j, r.emb j = r'.emb (g j)) :
    (has c (M.slice r' hr') q X : sProp 𝕄)
      ⊢ iprop((has c (M.slice r' hr') q X -∗ Runs c (k fun j => X (g j)) Q) -∗ Runs c (.op (.load M r.toLoadRect hl) k) Q) := by
  unfold has owns
  iintro ⟨%f, %hf, H⟩ Hk
  iapply (wp_load_rect 𝒱₀ (c.tc : Thread nD τ) none Set.univ (m := M) (r := r) (S := (M.slice r' hr').view.set) (f := f)
    (access_subset (hr' := hr') g hg)) $$ H
  iintro H
  rw [show (M.access r).read (Elt F) f = fun j => X (g j) from funext fun j => by
    rw [← hf]
    show M.view.read (Elt F) f (r.emb j) = M.view.read (Elt F) f (r'.emb (g j))
    rw [hg]]
  iapply Hk
  iexists f; isplitr; · (ipureintro; exact hf)
  iexact H

/-- A load of a held rectangle. -/
theorem wp_load_same {cs : CoreSpace} {s : Shape} {e : EltTy} {M : Memref sig .tc cs s e} {r : Rect s}
    {hr : ∀ a, r.stride a = 1} {hl : M.view.LoadsAt r.toLoadRect} {k : (r.shape.Idx → Elt F e) → BProg F}
    {q : PosShare TreeShare} {X : r.shape.Idx → Elt F e} :
    (has c (M.slice r hr) q X : sProp 𝕄)
      ⊢ iprop((has c (M.slice r hr) q X -∗ Runs c (k X) Q) -∗ Runs c (.op (.load M r.toLoadRect hl) k) Q) :=
  wp_load_has c (fun j => j) fun _ => rfl

/-- A load whose value nothing depends on. -/
theorem wp_load_any {cs : CoreSpace} {s : Shape} {e : EltTy} {M : Memref sig .tc cs s e} {r : Rect s}
    {hr : ∀ a, r.stride a = 1} {hl : M.view.LoadsAt r.toLoadRect} {k : BProg F} :
    (any F c (M.slice r hr) : sProp 𝕄)
      ⊢ iprop((any F c (M.slice r hr) -∗ Runs c k Q) -∗ Runs c (.op (.load M r.toLoadRect hl) fun _ => k) Q) := by
  unfold any
  iintro ⟨%X, H⟩ Hk
  iapply (wp_load_same c (hr := hr) (k := fun _ => k)) $$ H
  iintro H
  iapply Hk
  iexists X; iexact H

/-- A store to a held rectangle. -/
theorem wp_store_has {cs : CoreSpace} {s : Shape} {e : EltTy} {M : Memref sig .tc cs s e} {r : Rect s}
    {hr : ∀ a, r.stride a = 1} {w : r.shape.Idx → Elt F e} {hx : (M.access r).Stores Finset.univ}
    {hm : (Finset.univ : Finset r.shape.Idx) = Finset.univ ∨ ∀ a, r.stride a = 1} {k : PUnit → BProg F} :
    (any F c (M.slice r hr) : sProp 𝕄)
      ⊢ iprop((has c (M.slice r hr) fullShare w -∗ Runs c (k ⟨⟩) Q) -∗ Runs c (.op (.store M r w Finset.univ hx hm) k) Q) := by
  unfold any has owns
  iintro ⟨%X, %f, %hf, H⟩ Hk
  iapply (wp_store 𝒱₀ (c.tc : Thread nD τ) none Set.univ (m := M) (r := r) (w := w) (Mk := Finset.univ)
    (S := (M.slice r hr).view.set) (f := f) subset_rfl) $$ H
  iintro H
  iapply Hk
  iexists ((M.access r).write (Elt F) f w Finset.univ)
  isplitr
  · ipureintro; exact View.read_write_univ (v := M.access r) _ _
  iexact H

/-! ## Copies on one device -/

/-- A copy on its way: it will give `dst` at `X`, the source, and its semaphore at zero. -/
abbrev Going (s : DmaSem sig) (N : ℕ) (D : sProp 𝕄) : sProp 𝕄 := Transfers.Flight (EC (F := F)) (c.tc : Thread nD τ) (.dma s) () N D

/-- A copy starts. -/
theorem wp_copy {sp sp' : Space} {sh : Shape} {e : EltTy} {src : Memref sig .tc sp sh e} {dst : Memref sig .tc sp' sh e} {s s' : DmaSem sig}
    {hsrc : src.view.WordExact} {hdst : dst.view.WordExact} {hsem : DmaTarget.Typed sp (.dma s) (.here dst : DmaTarget nD τ sig .tc sp' sh e)}
    {k : PUnit → BProg F} {q : PosShare TreeShare} {X : sh.Idx → Elt F e} (N : ℕ) (hs : s = s')
    (hN : dst.view.amount (.dma s) = N) (hN0 : 0 < N) :
    iprop(has c src q X ∗ any F c dst ∗ semVal ((c.tc : Thread nD τ), .dma s') 0)
      ⊢ iprop((Going c s' N iprop(has c dst fullShare X ∗ has c src q X) -∗ Runs c (k ⟨⟩) Q)
          -∗ Runs c (.op (.enqueueDma src (.here dst) (.dma s) hsrc hdst hsem) k) Q) := by
  subst hs
  unfold any has owns
  iintro ⟨⟨%f, %hf, H⟩, ⟨%Y, %f', %hf', H'⟩, Hv⟩ Hk
  iapply (Transfers.wp_dmaLocal (EC (F := F)) 𝒱₀ (c.tc : Thread nD τ) none (sm := .dma s) (Sd := dst.view.set) () N hN hN0 subset_rfl) $$ [H H' Hv]
  · isplitl [H]; · iexact H
    isplitl [H']; · iexact H'
    iexact Hv
  iintro HF
  iapply Hk
  iapply (Transfers.Flight_mono (EC (F := F)) (c.tc : Thread nD τ) ?_) $$ HF
  iintro ⟨H', H⟩
  isplitl [H']
  · iexists (dst.view.write (Elt F) f' (src.view.read (Elt F) f) Finset.univ); isplitr
    · ipureintro; exact (View.read_write_univ (v := dst.view) _ _).trans hf
    iexact H'
  iexists f; isplitr; · (ipureintro; exact hf)
  iexact H

/-- A copy is waited for. -/
theorem wp_landed (κ : Dev nD × Key → ℕ) {sp sp' : Space} {sh sh' : Shape} {e e' : EltTy} {src : Memref sig .tc sp sh e} {dst : Memref sig .tc sp' sh' e'}
    {s s' : DmaSem sig} {hsrc : src.view.WordExact} {hdst : dst.view.WordExact} {k : PUnit → BProg F} {N : ℕ} {D : sProp 𝕄}
    (O : CellTallies nD τ sig Unit) (hs : s = s') (hN : dst.view.dmaCredit = N) (hl : semKey (.dma s') = none) (hO : Above 0 O) :
    iprop(recs m κ ∗ Going c s' N D ∗ debt c O)
      ⊢ iprop(((D ∗ semVal ((c.tc : Thread nD τ), .dma s') 0 ∗ debt c O) -∗ Runs c (k ⟨⟩) Q)
          -∗ Runs c (.op (.waitDma2 s src dst hsrc hdst) k) Q) := by
  subst hs
  unfold debt
  iintro ⟨#HR, HF, %W, HO⟩ Hk
  iapply (Transfers.wp_waitLocalO (EC (F := F)) 𝒱₀ (c.tc : Thread nD τ) none () hN) $$ [HF HO]
  · isplitl [HF]; · iexact HF
    isplitl [HO]; · iexact HO
    iapply (mayWait c _ O 0 (by rw [hl]; exact le_refl _) hO)
    iapply (recs_lev m κ) $$ HR
  iintro ⟨HD, Hv, HO⟩
  iapply Hk
  isplitl [HD]; · iexact HD
  isplitl [Hv]; · iexact Hv
  iexists _; iexact HO

/-! ## Transfers between devices -/

/-- A transfer to another device starts: half of the source stays. -/
theorem wp_sendC (κ : Dev nD × Key → ℕ) {sp sp' : Space} {sh : Shape} {e : EltTy} {src : Memref sig .tc sp sh e} {dst : Memref sig .tc sp' sh e}
    {sS sR : DmaSem sig} {t t' : Dev nD} {hsc : dst.view.ref.isScScratch = false}
    {hsrc : src.view.WordExact} {hdst : dst.view.WordExact} {hsem : DmaTarget.Typed sp (.dma sR) (.remote (Dev.tc t) dst (.dma sS) hsc)}
    {k : PUnit → BProg F} {X : sh.Idx → Elt F e} (k₁ k₂ : Fin 4 × Fin 8) (O : CellTallies nD τ sig Unit)
    (ht : t = t') (hS : SemLoc.dma sS = keySem (some k₁)) (hT : SemLoc.dma sR = keySem (some k₂)) (hN : dst.view.amount (.dma sR) = NC)
    (hp₁ : has c src hL X ⊢ pay m c k₁) (hp₂ : has t' dst fullShare X ⊢ pay m t' k₂) :
    iprop(recs m κ ∗ has c src fullShare X ∗ any F t' dst ∗ debt c (O + tallyAt (cell t' (some k₂)) () NC)
        ∗ dutyTok ER (cell c (some k₁)) 0 false ∗ dutyTok ER (cell t' (some k₂)) 0 false)
      ⊢ iprop(((has c src hR X ∗ cred (tallyAt (cell c (some k₁)) () NC) ∗ debt c O) -∗ Runs c (k ⟨⟩) Q)
          -∗ Runs c (.op (.enqueueDma src (.remote (Dev.tc t) dst (.dma sS) hsc) (.dma sR) hsrc hdst hsem) k) Q) := by
  subst ht
  rw [cell, cell, ← hS, ← hT]
  unfold any debt has owns
  iintro ⟨#HR, ⟨%f, %hf, H⟩, ⟨%Y, %f', %hf', H'⟩, ⟨%W, HO⟩, Ht₁, Ht₂⟩ Hk
  ihave H2 := (pointsTo_share (PosShare.mem_left_op_right fullShare)).1 $$ H
  icases H2 with ⟨Hl, Hr⟩
  iapply (Rounds.wp_send_pointsTo 𝒱₀ ER (Rd m) (c.tc : Thread nD τ) none (c' := (t.tc : Thread nD τ)) (κ₁ := κ (c, some k₁)) (κ₂ := κ (t, some k₂))
      (r₁ := 0) (r₂ := 0) (d₁ := false) (d₂ := false) (fd := f') (fs := f) (q := hL) (src := src) (dst := dst)
      (by rw [hS, duties_cell]; exact Finset.mem_singleton_self _) (by rw [hT, duties_cell]; exact Finset.mem_singleton_self _)
      () () NC hN (by rw [hS, amount_cell]; rfl) (by rw [hT, amount_cell]; rfl) O rfl (W := W)
      (by
        rw [hS, payload_cell]; refine BIBase.Entails.trans ?_ hp₁
        unfold has owns; iintro H; iexists f; isplitr; · (ipureintro; exact hf)
        iexact H)
      (by
        rw [hT, payload_cell]; refine BIBase.Entails.trans ?_ hp₂
        unfold has owns; iintro H; iexists (dst.view.write (Elt F) f' (src.view.read (Elt F) f) Finset.univ)
        isplitr; · (ipureintro; exact (View.read_write_univ (v := dst.view) _ _).trans hf)
        iexact H)) $$ [Hl H' HO Ht₁ Ht₂]
  · isplitr; · rw [hS]; iapply (recs_inv m κ c (some k₁)) $$ HR
    isplitr; · rw [hT]; iapply (recs_inv m κ t (some k₂)) $$ HR
    isplitl [Hl]; · iexact Hl
    isplitl [H']; · iexact H'
    isplitl [HO]; · iexact HO
    isplitl [Ht₁]; · iexact Ht₁
    isplitr; · rw [hS]; iapply (recs_reached m κ c (some k₁)) $$ HR
    isplitl [Ht₂]; · iexact Ht₂
    rw [hT]; iapply (recs_reached m κ t (some k₂)) $$ HR
  iintro ⟨Hc, HO⟩
  iapply Hk
  isplitl [Hr]
  · iexists f; isplitr; · (ipureintro; exact hf)
    iexact Hr
  isplitl [Hc]; · iexact Hc
  iexists W; iexact HO

/-- An exchange's semaphore is waited for: its payload arrives. -/
theorem wp_recv (κ : Dev nD × Key → ℕ) {sp sp' : Space} {sh sh' : Shape} {e e' : EltTy} {src : Memref sig .tc sp sh e} {dst : Memref sig .tc sp' sh' e'}
    {s : DmaSem sig} {hsrc : src.view.WordExact} {hdst : dst.view.WordExact} {k : PUnit → BProg F}
    (k₁ : Fin 4 × Fin 8) (O : CellTallies nD τ sig Unit) (hS : SemLoc.dma s = keySem (some k₁)) (hN : dst.view.dmaCredit = NC)
    (hO : Above (lvOf (some (some k₁))) O) :
    iprop(recs m κ ∗ cred (tallyAt (cell c (some k₁)) () NC) ∗ debt c O ∗ atPos ER (cell c (some k₁)) 0 ∅ 0)
      ⊢ iprop(((pay m c k₁ ∗ atPos ER (cell c (some k₁)) 1 ∅ 0 ∗ debt c O) -∗ Runs c (k ⟨⟩) Q)
          -∗ Runs c (.op (.waitDma2 s src dst hsrc hdst) k) Q) := by
  rw [cell, ← hS]
  unfold debt
  iintro ⟨#HR, Hc, ⟨%W, HO⟩, Hat⟩ Hk
  iapply (Rounds.wp_wait_rest_token 𝒱₀ ER (Rd m) (c.tc : Thread nD τ) none (κ := κ (c, some k₁))
      (wpE_waitDma2_eq 𝒱₀ (c.tc : Thread nD τ) none Set.univ) (Set.mem_univ _) () (O := O) (W := W) (R := 0) (m := 0) (T := ∅)
      (by rw [hN, hS, expect_some, Nat.zero_add])) $$ [Hc HO Hat]
  · isplitr; · rw [hS]; iapply (recs_inv m κ c (some k₁)) $$ HR
    isplitl [Hc]; · rw [hN]; iexact Hc
    isplitl [HO]; · iexact HO
    isplitr
    · iapply (mayWait c _ O _ (by rw [hS, semKey_keySem]) hO)
      iapply (recs_lev m κ) $$ HR
    iexact Hat
  iintro ⟨HO, Hat, -, Hpay⟩
  rw [hS]
  ihave Hp := (Entails.of_eq (rest_some m c k₁)) $$ Hpay
  iapply Hk
  isplitl [Hp]; · iexact Hp
  isplitl [Hat]; · iexact Hat
  iexists _; iexact HO

/-! ## Repeated steps -/

theorem bigSep_first {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp), bigSep_map]; rfl

/-- A step run for every index: what each needs and gives, and what is carried along. -/
theorem wp_seqN {R : sProp 𝕄} [BI.Persistent R] {n : ℕ} (f : Fin n → BProg F → BProg F) (S : ℕ → sProp 𝕄) (Pre Post : Fin n → sProp 𝕄)
    (h : ∀ (i : Fin n) (k : BProg F), iprop(R ∗ Pre i ∗ S i.val) ⊢ iprop(((Post i ∗ S (i.val + 1)) -∗ Runs c k Q) -∗ Runs c (f i k) Q))
    (k : BProg F) :
    iprop(R ∗ bigSep Finset.univ Pre ∗ S 0) ⊢ iprop(((bigSep Finset.univ Post ∗ S n) -∗ Runs c k Q) -∗ Runs c (seqN n f k) Q) := by
  induction n generalizing S with
  | zero =>
    unfold seqN
    iintro ⟨-, H, HS⟩ Hk
    iapply Hk
    isplitl [H]; · rw [show Pre = Post from funext fun i => i.elim0]; iexact H
    iexact HS
  | succ n ih =>
    unfold seqN
    rw [bigSep_first Pre, bigSep_first Post]
    iintro ⟨#HR, ⟨H0, Hs⟩, HS⟩ Hk
    have h0 := fun k => h 0 k
    simp only [Fin.val_zero] at h0
    iapply (h0 _) $$ [H0 HS]
    · isplitr; · iexact HR
      isplitl [H0]; · iexact H0
      iexact HS
    iintro ⟨H0, HS⟩
    iapply (ih (fun i => f i.succ) (fun j => S (j + 1)) (fun i => Pre i.succ) (fun i => Post i.succ)
      (fun i k => h i.succ k)) $$ [Hs HS]
    · isplitr; · iexact HR
      isplitl [Hs]; · iexact Hs
      iexact HS
    iintro ⟨Hs, HS⟩
    iapply Hk
    isplitl [H0 Hs]
    · isplitl [H0]; · iexact H0
      iexact Hs
    iexact HS

end Cert.KernelIdeal
-- ==== Proof.Steps.lean ====
/-
The body's steps, each run once at a symbolic index.
-/
module

public import proofs.«01_k».proof.Proof.Rules

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (κ : Dev nD × Key → ℕ)
variable (c : Dev nD) {Q : PUnit.{1} → sProp (MT nD τ sig Unit (Elt F) ℕ UU ℕ)}

/-! ## The pieces a device holds -/

abbrev pW (k : Fin 8) := mW.slice (rWcol k) (fun _ => rfl)
abbrev pDy (d : Dev nD) (k : Fin 8) := mDy.slice (rDy d k) (fun _ => rfl)
abbrev pD (k : Fin 8) := mD.slice (rDcol k) (fun _ => rfl)
abbrev pWs (k : Fin 8) := mWs.slice (rWslab k) (fun _ => rfl)
abbrev pWt (k : Fin 8) := mWt.slice (rWrow k) (fun _ => rfl)
abbrev pAcc := mAcc.slice rAcc (fun _ => rfl)
abbrev pOwn (d : Dev nD) (r : Fin 8) := mOut.slice (rOwn d r) (fun _ => rfl)
abbrev pOther (d : Dev nD) (r : Fin 8) := mOut.slice (rOther d r) (fun _ => rfl)

/-- DMA semaphore `r` of group `j` at zero. -/
abbrev semZ (j r : Fin 8) : sProp 𝕄 := semVal ((c.tc : Thread nD τ), .dma (sm j r)) 0

abbrev NW : ℕ := (mWslab 0).view.dmaCredit
abbrev ND : ℕ := (pD 0).view.dmaCredit
abbrev NO : ℕ := (pOwn 0 0).view.dmaCredit
theorem NW_pos : 0 < NW := View.dmaCredit_pos _ (by decide +kernel)
theorem ND_pos : 0 < ND := View.dmaCredit_pos _ (by decide +kernel)
theorem NO_pos : 0 < NO := View.dmaCredit_pos _ (by decide +kernel)

/-! ## A slab as a matrix -/

theorem casts_slab : S1024x512.ShapeCasts S1x1024x512 := by decide

theorem squeeze_in {sp : Space} {s s' : Shape} {e : EltTy} (M : Memref sig .tc sp s e) (h : s.Squeezes s') (hc : s'.ShapeCasts s)
    (q : PosShare TreeShare) (X : s'.Idx → Elt F e) :
    (has c (M.squeeze s' h) q X : sProp 𝕄) ⊢ has c M q (shapeCast s X hc) := by
  unfold has owns
  iintro ⟨%f, %hf, H⟩
  iexists f
  isplitr
  · ipureintro
    funext j
    rw [← hf]
    show M.view.read (Elt F) f j = M.view.read (Elt F) f (Shape.reshapeEquiv _ (Shape.reshapeEquiv _ j))
    rw [Shape.reshapeEquiv_reshapeEquiv, Shape.reshapeEquiv_self]
  rw [show M.view.set = (M.squeeze s' h).view.set from (View.set_reshape (v := M.view) _).symm]
  iexact H

theorem squeeze_out {sp : Space} {s s' : Shape} {e : EltTy} (M : Memref sig .tc sp s e) (h : s.Squeezes s') (hc : s'.ShapeCasts s)
    (q : PosShare TreeShare) (X : s'.Idx → Elt F e) :
    (has c M q (shapeCast s X hc) : sProp 𝕄) ⊢ has c (M.squeeze s' h) q X := by
  unfold has owns
  iintro ⟨%f, %hf, H⟩
  iexists f
  isplitr
  · ipureintro
    funext j
    show M.view.read (Elt F) f (Shape.reshapeEquiv _ j) = _
    rw [hf]
    show X (Shape.reshapeEquiv _ (Shape.reshapeEquiv _ j)) = X j
    rw [Shape.reshapeEquiv_reshapeEquiv, Shape.reshapeEquiv_self]
  rw [show (M.squeeze s' h).view.set = M.view.set from View.set_reshape (v := M.view) _]
  iexact H

theorem slab_in (k : Fin 8) (q : PosShare TreeShare) (X : Vec F S1024x512 .f32) :
    (has c (mWslab k) q X : sProp 𝕄) ⊢ has c (pWs k) q (shapeCast S1x1024x512 X casts_slab) :=
  squeeze_in c (pWs k) _ casts_slab q X
theorem slab_out (k : Fin 8) (q : PosShare TreeShare) (X : Vec F S1024x512 .f32) :
    (has c (pWs k) q (shapeCast S1x1024x512 X casts_slab) : sProp 𝕄) ⊢ has c (mWslab k) q X :=
  squeeze_out c (pWs k) _ casts_slab q X

theorem slab_any_out (k : Fin 8) : (any F c (pWs k) : sProp 𝕄) ⊢ any F c (mWslab k) := by
  unfold any
  iintro ⟨%X, H⟩
  iexists (shapeCast S1024x512 X shapeCasts_S1x1024x512_S1024x512)
  iapply (slab_out c k fullShare)
  rw [shapeCast_shapeCast]
  iexact H

theorem slab_any_in (k : Fin 8) (X : Vec F S1024x512 .f32) : (has c (mWslab k) fullShare X : sProp 𝕄) ⊢ any F c (pWs k) := by
  iintro H
  ihave H := (slab_in c k fullShare X) $$ H
  iapply (any_intro c (pWs k)) $$ H

/-! ## Fetching -/

abbrev FlW (i : Fin 8) : sProp 𝕄 := Going c (sm 1 i) NW iprop(has c (mWslab i) fullShare (wB m c i) ∗ has c (pW i) fullShare (wB m c i))
abbrev FlD (i : Fin 8) : sProp 𝕄 := Going c (sm 0 i) ND iprop(has c (pD i) fullShare (dyB m c i) ∗ has c (pDy c i) fullShare (dyB m c i))

abbrev startPre (i : Fin 8) : sProp 𝕄 :=
  iprop(has c (pW i) fullShare (wB m c i) ∗ any F c (mWslab i) ∗ semZ c 1 i
    ∗ has c (pDy c i) fullShare (dyB m c i) ∗ any F c (pD i) ∗ semZ c 0 i)

theorem run_start (i : Fin 8) (k : BProg F) :
    iprop(recs m κ ∗ startPre m c i ∗ emp) ⊢ iprop((((FlW m c i ∗ FlD m c i) ∗ emp) -∗ Runs c k Q) -∗ Runs c (startStep c i k) Q) := by
  unfold startStep
  iintro ⟨-, ⟨HW, Hs, Hz, HDy, HD, Hz'⟩, -⟩ Hk
  iapply (wp_copy c (src := pW i) (dst := mWslab i) NW (at8_9 i) (rfl : _ = NW) NW_pos) $$ [HW Hs Hz]
  · isplitl [HW]; · iexact HW
    isplitl [Hs]; · iexact Hs
    iexact Hz
  iintro HfW
  iapply (wp_copy c (src := pDy c i) (dst := pD i) ND (at8_8 i) (rfl : _ = ND) ND_pos) $$ [HDy HD Hz']
  · isplitl [HDy]; · iexact HDy
    isplitl [HD]; · iexact HD
    iexact Hz'
  iintro HfD
  iapply Hk
  isplitl [HfW HfD]
  · isplitl [HfW]; · iexact HfW
    iexact HfD
  iempintro

/-! ## The contraction -/

/-- What block `i` of the weights leaves. -/
abbrev doneW (i : Fin 8) : sProp 𝕄 :=
  iprop(has c (mWslab i) fullShare (wB m c i) ∗ has c (pW i) fullShare (wB m c i) ∗ semZ c 1 i)
/-- What block `i` of the gradients leaves. -/
abbrev doneD (i : Fin 8) : sProp 𝕄 :=
  iprop(has c (pDy c i) fullShare (dyB m c i) ∗ semZ c 0 i)

theorem run_tr (i : Fin 8) (O : CellTallies nD τ sig Unit) (hO : Above 0 O) (k : BProg F) :
    iprop(recs m κ ∗ FlW m c i ∗ any F c (pWt i) ∗ debt c O)
      ⊢ iprop(((doneW m c i ∗ has c (pWt i) fullShare (wT m c i) ∗ debt c O) -∗ Runs c k Q) -∗ Runs c (trStep i k) Q) := by
  unfold trStep
  iintro ⟨#HR, HF, Hw, HO⟩ Hk
  iapply (wp_landed m c κ (dst := mWslab i) O (at8_9 i) (rfl : _ = NW) (semKey_local 1 i) hO) $$ [HF HO]
  · isplitr; · iexact HR
    isplitl [HF]; · iexact HF
    iexact HO
  iintro ⟨⟨Hs, HW⟩, Hz, HO⟩
  ihave Hs := (slab_in c i fullShare _) $$ Hs
  iapply (wp_load_same c) $$ Hs
  iintro Hs
  iapply (wp_load_any c) $$ Hw
  iintro Hw
  iapply (wp_store_has c) $$ Hw
  iintro Hw
  iapply Hk
  ihave Hs := (slab_out c i fullShare _) $$ Hs
  isplitl [Hs HW Hz]
  · isplitl [Hs]; · iexact Hs
    isplitl [HW]; · iexact HW
    iexact Hz
  isplitl [Hw]; · iexact Hw
  iexact HO

theorem run_dy (i : Fin 8) (O : CellTallies nD τ sig Unit) (hO : Above 0 O) (k : BProg F) :
    iprop(recs m κ ∗ FlD m c i ∗ debt c O)
      ⊢ iprop(((doneD m c i ∗ has c (pD i) fullShare (dyB m c i) ∗ debt c O) -∗ Runs c k Q) -∗ Runs c (dyWait c i k) Q) := by
  unfold dyWait
  iintro ⟨#HR, HF, HO⟩ Hk
  iapply (wp_landed m c κ (dst := pD i) O (at8_8 i) (rfl : _ = ND) (semKey_local 0 i) hO) $$ [HF HO]
  · isplitr; · iexact HR
    isplitl [HF]; · iexact HF
    iexact HO
  iintro ⟨⟨HD, HDy⟩, Hz, HO⟩
  iapply Hk
  isplitl [HDy Hz]
  · isplitl [HDy]; · iexact HDy
    iexact Hz
  isplitl [HD]; · iexact HD
  iexact HO

/-- What block `i` of the contraction leaves. -/
abbrev doneB (i : Fin 8) : sProp 𝕄 :=
  iprop(doneW m c i ∗ doneD m c i ∗ has c (pWt i) fullShare (wT m c i) ∗ has c (pD i) fullShare (dyB m c i))

theorem run_gemm0 (O : CellTallies nD τ sig Unit) (hO : Above 0 O) (k : BProg F) :
    iprop(recs m κ ∗ (FlW m c 0 ∗ FlD m c 0 ∗ any F c (pWt 0)) ∗ debt c O ∗ any F c pAcc)
      ⊢ iprop(((doneB m c 0 ∗ debt c O ∗ has c pAcc fullShare (accC m c 0)) -∗ Runs c k Q) -∗ Runs c (gemm0 c k) Q) := by
  unfold gemm0
  iintro ⟨#HR, ⟨HFW, HFD, Hw⟩, HO, Ha⟩ Hk
  iapply (run_tr m κ c 0 O hO) $$ [HFW Hw HO]
  · isplitr; · iexact HR
    isplitl [HFW]; · iexact HFW
    isplitl [Hw]; · iexact Hw
    iexact HO
  iintro ⟨HdW, Hw, HO⟩
  iapply (run_dy m κ c 0 O hO) $$ [HFD HO]
  · isplitr; · iexact HR
    isplitl [HFD]; · iexact HFD
    iexact HO
  iintro ⟨HdD, HD, HO⟩
  iapply (wp_load_same c) $$ HD
  iintro HD
  iapply (wp_load_same c) $$ Hw
  iintro Hw
  iapply (wp_load_any c) $$ Ha
  iintro Ha
  iapply (wp_store_has c) $$ Ha
  iintro Ha
  iapply Hk
  isplitl [HdW HdD Hw HD]
  · isplitl [HdW]; · iexact HdW
    isplitl [HdD]; · iexact HdD
    isplitl [Hw]; · iexact Hw
    iexact HD
  isplitl [HO]; · iexact HO
  iexact Ha

theorem run_gemm (i : Fin 8) (n : ℕ) (hn : Fin.ofNat 8 (n + 1) = i) (O : CellTallies nD τ sig Unit) (hO : Above 0 O) (k : BProg F) :
    iprop(recs m κ ∗ (FlW m c i ∗ FlD m c i ∗ any F c (pWt i)) ∗ debt c O ∗ has c pAcc fullShare (accC m c n))
      ⊢ iprop(((doneB m c i ∗ debt c O ∗ has c pAcc fullShare (accC m c (n + 1))) -∗ Runs c k Q) -∗ Runs c (gemmStep c i k) Q) := by
  subst hn
  unfold gemmStep
  iintro ⟨#HR, ⟨HFW, HFD, Hw⟩, HO, Ha⟩ Hk
  iapply (run_tr m κ c _ O hO) $$ [HFW Hw HO]
  · isplitr; · iexact HR
    isplitl [HFW]; · iexact HFW
    isplitl [Hw]; · iexact Hw
    iexact HO
  iintro ⟨HdW, Hw, HO⟩
  iapply (run_dy m κ c _ O hO) $$ [HFD HO]
  · isplitr; · iexact HR
    isplitl [HFD]; · iexact HFD
    iexact HO
  iintro ⟨HdD, HD, HO⟩
  iapply (wp_load_same c) $$ HD
  iintro HD
  iapply (wp_load_same c) $$ Hw
  iintro Hw
  iapply (wp_load_same c) $$ Ha
  iintro Ha
  ihave Ha := (any_intro c pAcc _) $$ Ha
  iapply (wp_load_any c) $$ Ha
  iintro Ha
  iapply (wp_store_has c) $$ Ha
  iintro Ha
  iapply Hk
  isplitl [HdW HdD Hw HD]
  · isplitl [HdW]; · iexact HdW
    isplitl [HdD]; · iexact HdD
    isplitl [Hw]; · iexact Hw
    iexact HD
  isplitl [HO]; · iexact HO
  iexact Ha

/-! ## The handshake -/

/-- What a device hands its two peers: its receive buffers. -/
abbrev recvBufs : sProp 𝕄 :=
  iprop((bigSep Finset.univ fun r => any F c (rowOf mXr r)) ∗ (bigSep Finset.univ fun r => any F c (rowOf mYr r)))

theorem run_signals (O : CellTallies nD τ sig Unit) (k : BProg F) :
    iprop(recs m κ ∗ recvBufs (F := F) c ∗ debt c ((O + tallyAt (cell (yp c) none) () 1) + tallyAt (cell (xp c) none) () 1)
        ∗ dutyTok ER (cell (xp c) none) 0 false ∗ dutyTok ER (cell (yp c) none) 0 true)
      ⊢ iprop((debt c O -∗ Runs c k Q) -∗ Runs c (signals c k) Q) := by
  unfold signals
  simp only [semSignalWord, Prog.lift, Prog.bind_op, Prog.bind_ret, Prog.pure_eq_ret, dev1_eq, dev2_eq]
  unfold debt
  iintro ⟨#HR, ⟨Hx, Hy⟩, ⟨%W, HO⟩, Htx, Hty⟩ Hk
  iapply (Rounds.wp_signal 𝒱₀ ER (Rd m) (c.tc : Thread nD τ) none (dst := ((xp c).tc : Thread nD τ)) (sem := barS) (κ := κ (xp c, none)) (r := 0)
      (d := false) (by show _ ∈ (Rd m).duties (cell (xp c) none) 0; rw [duties_cell]; exact Finset.mem_univ _)
      ((amount_cell m (xp c) none false).trans (by decide)) () (O + tallyAt (cell (yp c) none) () 1) rfl)
    $$ [HO Htx Hx]
  · isplitr; · iapply (recs_inv m κ (xp c) none) $$ HR
    isplitl [HO]; · iexact HO
    isplitl [Htx]; · iexact Htx
    isplitl [Hx]
    · iapply (Entails.of_eq (show _ = (Rd m).payload (((xp c).tc : Thread nD τ), SemLoc.reg barS) 0 false from (payload_cell m (xp c) none false).symm))
      unfold payOf barPay; rw [xp_xp]; iexact Hx
    iapply (recs_reached m κ (xp c) none) $$ HR
  iintro HO
  iapply (Rounds.wp_signal 𝒱₀ ER (Rd m) (c.tc : Thread nD τ) none (dst := ((yp c).tc : Thread nD τ)) (sem := barS) (κ := κ (yp c, none)) (r := 0)
      (d := true) (by show _ ∈ (Rd m).duties (cell (yp c) none) 0; rw [duties_cell]; exact Finset.mem_univ _)
      ((amount_cell m (yp c) none true).trans (by decide)) () O rfl)
    $$ [HO Hty Hy]
  · isplitr; · iapply (recs_inv m κ (yp c) none) $$ HR
    isplitl [HO]; · iexact HO
    isplitl [Hty]; · iexact Hty
    isplitl [Hy]
    · iapply (Entails.of_eq (show _ = (Rd m).payload (((yp c).tc : Thread nD τ), SemLoc.reg barS) 0 true from (payload_cell m (yp c) none true).symm))
      unfold payOf barPay; rw [yp_yp]; iexact Hy
    iapply (recs_reached m κ (yp c) none) $$ HR
  iintro HO
  iapply Hk
  iexists W; iexact HO

theorem run_barWait (O : CellTallies nD τ sig Unit) (hO : Above 1 O) (k : BProg F) :
    iprop(recs m κ ∗ cred (tallyAt (cell c none) () 2) ∗ debt c O ∗ atPos ER (cell c none) 0 ∅ 0)
      ⊢ iprop((((bigSep Finset.univ fun r => any F (xp c) (rowOf mXr r)) ∗ (bigSep Finset.univ fun r => any F (yp c) (rowOf mYr r))
          ∗ atPos ER (cell c none) 1 ∅ 0 ∗ debt c O) -∗ Runs c k Q) -∗ Runs c (barWait k) Q) := by
  unfold barWait
  simp only [semWaitWord, Prog.lift, Prog.bind_op, Prog.bind_ret, Prog.pure_eq_ret]
  unfold debt
  iintro ⟨#HR, Hc, ⟨%W, HO⟩, Hat⟩ Hk
  iapply (Rounds.wp_wait_rest_token 𝒱₀ ER (Rd m) (c.tc : Thread nD τ) none (κ := κ (c, none)) (sm := .reg barS)
      (wpE_semWait_eq 𝒱₀ (c.tc : Thread nD τ) none Set.univ) (Set.mem_univ _) () (O := O) (W := W) (R := 0) (m := 0) (T := ∅)
      (by rw [show (Rd m).expect ((c.tc : Thread nD τ), SemLoc.reg barS) 0 = 2 from expect_bar m c]; decide)) $$ [Hc HO Hat]
  · isplitr; · iapply (recs_inv m κ c none) $$ HR
    isplitl [Hc]; · iexact Hc
    isplitl [HO]; · iexact HO
    isplitr
    · iapply (mayWait c (.reg barS) O 1 (le_refl _) hO)
      iapply (recs_lev m κ) $$ HR
    iexact Hat
  iintro ⟨HO, Hat, -, Hpay⟩
  ihave Hp := (Entails.of_eq (show bigSep ((Rd m).duties ((c.tc : Thread nD τ), SemLoc.reg barS) 0 \ ∅) (fun d => (Rd m).payload ((c.tc : Thread nD τ), SemLoc.reg barS) 0 d) = _ from rest_bar m c)) $$ Hpay
  unfold barPay
  icases Hp with ⟨Hx, Hy⟩
  iapply Hk
  isplitl [Hx]; · iexact Hx
  isplitl [Hy]; · iexact Hy
  isplitl [Hat]; · iexact Hat
  iexists _; iexact HO

/-! ## The exchanges -/

theorem emb_drow (r : Fin 8) (j : S64x512.Idx) : (rDrow r).emb j = (rDcol 7).emb ((rSub r).emb j) := by
  funext a; apply Fin.ext
  rw [Rect.emb_apply, Rect.emb_apply, Rect.emb_apply]
  fin_cases a
  · show 64 * r.val + 1 * (j 0).val = 0 + 1 * (64 * r.val + 1 * (j 0).val); omega
  · show 3584 + 1 * (j 1).val = 3584 + 1 * (0 + 1 * (j 1).val); omega
theorem emb_acc (j : S512x1024.Idx) : j = rAcc.emb j := by
  funext a; apply Fin.ext
  rw [Rect.emb_apply]
  fin_cases a
  · show (j 0).val = 0 + 1 * (j 0).val; omega
  · show (j 1).val = 0 + 1 * (j 1).val; omega

/-- What the exchanges' steps carry along: the last block's operands and the accumulator. -/
abbrev lastB : sProp 𝕄 :=
  iprop(has c (pD 7) fullShare (dyB m c 7) ∗ has c (pWt 7) fullShare (wT m c 7) ∗ has c pAcc fullShare (accC m c 6))

abbrev sendPre (r : Fin 8) : sProp 𝕄 :=
  iprop(any F c (rowOf mPv r) ∗ any F (yp c) (rowOf mYr r) ∗ dutyTok ER (cell c (kYs r)) 0 false ∗ dutyTok ER (cell (yp c) (kYr r)) 0 false)
abbrev sendPost (r : Fin 8) : sProp 𝕄 :=
  iprop(has c (rowOf mPv r) hR (pvC m c r) ∗ cred (tallyAt (cell c (kYs r)) () NC))

theorem keyYs (r : Fin 8) : SemLoc.dma (at8 cc0_scratch11 r) = keySem (kYs r) := congrArg SemLoc.dma (at8_11 r)
theorem keyYr (r : Fin 8) : SemLoc.dma (at8 cc0_scratch12 r) = keySem (kYr r) := congrArg SemLoc.dma (at8_12 r)
theorem keyXs (r : Fin 8) : SemLoc.dma (at8 cc0_scratch13 r) = keySem (kXs r) := congrArg SemLoc.dma (at8_13 r)
theorem keyXr (r : Fin 8) : SemLoc.dma (at8 cc0_scratch14 r) = keySem (kXr r) := congrArg SemLoc.dma (at8_14 r)

theorem run_send (r : Fin 8) (k : BProg F) :
    iprop(recs m κ ∗ sendPre (F := F) c r ∗ (debt c (owedX c 0 + owedY c r.val) ∗ lastB m c))
      ⊢ iprop(((sendPost m c r ∗ (debt c (owedX c 0 + owedY c (r.val + 1)) ∗ lastB m c)) -∗ Runs c k Q)
          -∗ Runs c (sendStep (yTo c r) r k) Q) := by
  unfold sendStep
  rw [show owedX c 0 + owedY c r.val = (owedX c 0 + owedY c (r.val + 1)) + tallyAt (cell (yp c) (kYr r)) () NC from by
    rw [owedY, rem_peel, ← add_assoc]]
  iintro ⟨#HR, ⟨Hp, Hy, Ht₁, Ht₂⟩, HO, HD, Hw, Ha⟩ Hk
  iapply (wp_load_has c (r := rDrow r) (r' := rDcol 7) (fun j => (rSub r).emb j) (emb_drow r)) $$ HD
  iintro HD
  iapply (wp_load_same c) $$ Hw
  iintro Hw
  iapply (wp_load_has c (r := rRow r) (r' := rAcc) (fun j => (rRow r).emb j) (fun j => emb_acc _)) $$ Ha
  iintro Ha
  iapply (wp_load_any c) $$ Hp
  iintro Hp
  iapply (wp_store_has c) $$ Hp
  iintro Hp
  iapply (wp_sendC m c κ (src := rowOf mPv r) (dst := rowOf mYr r) (0, r) (1, r) (owedX c 0 + owedY c (r.val + 1)) (yTo_eq c r) (keyYs r) (keyYr r) (rfl : _ = NC)
    (X := pvC m c r) (BIBase.Entails.rfl) (by unfold pay; rw [yp_yp])) $$ [Hp Hy HO Ht₁ Ht₂]
  · isplitr; · iexact HR
    isplitl [Hp]; · iexact Hp
    isplitl [Hy]; · iexact Hy
    isplitl [HO]; · iexact HO
    isplitl [Ht₁]; · iexact Ht₁
    iexact Ht₂
  iintro ⟨Hp, Hc, HO⟩
  iapply Hk
  isplitl [Hp Hc]
  · isplitl [Hp]; · iexact Hp
    iexact Hc
  isplitl [HO]; · iexact HO
  isplitl [HD]; · iexact HD
  isplitl [Hw]; · iexact Hw
  iexact Ha

abbrev FlO (r : Fin 8) : sProp 𝕄 := Going c (sm 2 r) NO iprop(has c (pOwn c r) fullShare (xsC m c r) ∗ has c (rowOf mXs r) hR (xsC m c r))
abbrev FlX (r : Fin 8) : sProp 𝕄 := Going c (sm 3 r) NO iprop(has c (pOther c r) fullShare (xsC m (xp c) r) ∗ has c (rowOf mXr r) fullShare (xsC m (xp c) r))

abbrev redPre (r : Fin 8) : sProp 𝕄 :=
  iprop(has c (rowOf mPv r) hR (pvC m c r) ∗ cred (tallyAt (cell c (kYr r)) () NC) ∗ atPos ER (cell c (kYr r)) 0 ∅ 0
    ∗ any F c (rowOf mXs r) ∗ any F (xp c) (rowOf mXr r) ∗ dutyTok ER (cell c (kXs r)) 0 false ∗ dutyTok ER (cell (xp c) (kXr r)) 0 false
    ∗ any F c (pOwn c r) ∗ semZ c 2 r)
abbrev redPost (r : Fin 8) : sProp 𝕄 :=
  iprop(has c (rowOf mPv r) hR (pvC m c r) ∗ has c (rowOf mYr r) fullShare (pvC m (yp c) r) ∗ atPos ER (cell c (kYr r)) 1 ∅ 0
    ∗ cred (tallyAt (cell c (kXs r)) () NC) ∗ FlO m c r)

theorem run_red (r : Fin 8) (k : BProg F) :
    iprop(recs m κ ∗ redPre m c r ∗ debt c (owedX c r.val))
      ⊢ iprop(((redPost m c r ∗ debt c (owedX c (r.val + 1))) -∗ Runs c k Q) -∗ Runs c (redStep c (xTo c r) r k) Q) := by
  unfold redStep
  iintro ⟨#HR, ⟨Hp, Hcy, Hat, Hs, Hx, Ht₁, Ht₂, Ho, Hz⟩, HO⟩ Hk
  iapply (wp_recv m c κ (dst := rowOf mYr r) (1, r) (owedX c r.val) (keyYr r) (rfl : _ = NC) (above_owedX (show 2 < 3 from by decide) c _)) $$ [Hcy HO Hat]
  · isplitr; · iexact HR
    isplitl [Hcy]; · iexact Hcy
    isplitl [HO]; · iexact HO
    iexact Hat
  iintro ⟨Hy, Hat, HO⟩
  iapply (wp_load_same c) $$ Hp
  iintro Hp
  ihave Hy := (show pay m c (1, r) ⊢ has c (rowOf mYr r) fullShare (pvC m (yp c) r) from BIBase.Entails.rfl) $$ Hy
  iapply (wp_load_same c) $$ Hy
  iintro Hy
  iapply (wp_load_any c) $$ Hs
  iintro Hs
  iapply (wp_store_has c) $$ Hs
  iintro Hs
  rw [show owedX c r.val = owedX c (r.val + 1) + tallyAt (cell (xp c) (kXr r)) () NC from rem_peel _ r]
  iapply (wp_sendC m c κ (src := rowOf mXs r) (dst := rowOf mXr r) (2, r) (3, r) (owedX c (r.val + 1)) (xTo_eq c r) (keyXs r) (keyXr r) (rfl : _ = NC)
    (X := xsC m c r) (BIBase.Entails.rfl) (by unfold pay; rw [xp_xp])) $$ [Hs Hx HO Ht₁ Ht₂]
  · isplitr; · iexact HR
    isplitl [Hs]; · iexact Hs
    isplitl [Hx]; · iexact Hx
    isplitl [HO]; · iexact HO
    isplitl [Ht₁]; · iexact Ht₁
    iexact Ht₂
  iintro ⟨Hs, Hcx, HO⟩
  iapply (wp_copy c (src := rowOf mXs r) (dst := pOwn c r) NO (at16_lo r) (rfl : _ = NO) NO_pos) $$ [Hs Ho Hz]
  · isplitl [Hs]; · iexact Hs
    isplitl [Ho]; · iexact Ho
    iexact Hz
  iintro HF
  iapply Hk
  isplitr [HO]
  · isplitl [Hp]; · iexact Hp
    isplitl [Hy]; · iexact Hy
    isplitl [Hat]; · iexact Hat
    isplitl [Hcx]; · iexact Hcx
    iexact HF
  iexact HO

abbrev xPre (r : Fin 8) : sProp 𝕄 :=
  iprop(cred (tallyAt (cell c (kXr r)) () NC) ∗ atPos ER (cell c (kXr r)) 0 ∅ 0 ∗ any F c (pOther c r) ∗ semZ c 3 r)
abbrev xPost (r : Fin 8) : sProp 𝕄 := iprop(atPos ER (cell c (kXr r)) 1 ∅ 0 ∗ FlX m c r)

theorem run_x (r : Fin 8) (k : BProg F) :
    iprop(recs m κ ∗ xPre (F := F) c r ∗ debt c 0) ⊢ iprop(((xPost m c r ∗ debt c 0) -∗ Runs c k Q) -∗ Runs c (xStep c r k) Q) := by
  unfold xStep
  iintro ⟨#HR, ⟨Hc, Hat, Ho, Hz⟩, HO⟩ Hk
  iapply (wp_recv m c κ (dst := rowOf mXr r) (3, r) 0 (keyXr r) (rfl : _ = NC) (above_zero _)) $$ [Hc HO Hat]
  · isplitr; · iexact HR
    isplitl [Hc]; · iexact Hc
    isplitl [HO]; · iexact HO
    iexact Hat
  iintro ⟨Hx, Hat, HO⟩
  ihave Hx := (show pay m c (3, r) ⊢ has c (rowOf mXr r) fullShare (xsC m (xp c) r) from BIBase.Entails.rfl) $$ Hx
  iapply (wp_copy c (src := rowOf mXr r) (dst := pOther c r) NO (at16_hi r) (rfl : _ = NO) NO_pos) $$ [Hx Ho Hz]
  · isplitl [Hx]; · iexact Hx
    isplitl [Ho]; · iexact Ho
    iexact Hz
  iintro HF
  iapply Hk
  isplitr [HO]
  · isplitl [Hat]; · iexact Hat
    iexact HF
  iexact HO

theorem run_outLo (r : Fin 8) (k : BProg F) :
    iprop(recs m κ ∗ FlO m c r ∗ debt c 0)
      ⊢ iprop((((has c (pOwn c r) fullShare (xsC m c r) ∗ has c (rowOf mXs r) hR (xsC m c r) ∗ semZ c 2 r) ∗ debt c 0) -∗ Runs c k Q)
          -∗ Runs c (outWait (r.castLE (by decide)) k) Q) := by
  unfold outWait
  iintro ⟨#HR, HF, HO⟩ Hk
  iapply (wp_landed m c κ (dst := mOut.slice (Rect.unit (s := S1024x1024) ![0, 0] S64x1024.size inb_S1024x1024_S64x1024_0_0) (fun _ => rfl)) 0 (at16_lo r) (rfl : _ = NO) (semKey_local 2 r) (above_zero _)) $$ [HF HO]
  · isplitr; · iexact HR
    isplitl [HF]; · iexact HF
    iexact HO
  iintro ⟨⟨H, H'⟩, Hz, HO⟩
  iapply Hk
  isplitr [HO]
  · isplitl [H]; · iexact H
    isplitl [H']; · iexact H'
    iexact Hz
  iexact HO

theorem run_outHi (r : Fin 8) (k : BProg F) :
    iprop(recs m κ ∗ FlX m c r ∗ debt c 0)
      ⊢ iprop((((has c (pOther c r) fullShare (xsC m (xp c) r) ∗ has c (rowOf mXr r) fullShare (xsC m (xp c) r) ∗ semZ c 3 r) ∗ debt c 0) -∗ Runs c k Q)
          -∗ Runs c (outWait (r.natAdd 8) k) Q) := by
  unfold outWait
  iintro ⟨#HR, HF, HO⟩ Hk
  iapply (wp_landed m c κ (dst := mOut.slice (Rect.unit (s := S1024x1024) ![0, 0] S64x1024.size inb_S1024x1024_S64x1024_0_0) (fun _ => rfl)) 0 (at16_hi r) (rfl : _ = NO) (semKey_local 3 r) (above_zero _)) $$ [HF HO]
  · isplitr; · iexact HR
    isplitl [HF]; · iexact HF
    iexact HO
  iintro ⟨⟨H, H'⟩, Hz, HO⟩
  iapply Hk
  isplitr [HO]
  · isplitl [H]; · iexact H
    isplitl [H']; · iexact H'
    iexact Hz
  iexact HO

abbrev endPre (r : Fin 8) : sProp 𝕄 :=
  iprop(cred (tallyAt (cell c (kYs r)) () NC) ∗ atPos ER (cell c (kYs r)) 0 ∅ 0 ∗ cred (tallyAt (cell c (kXs r)) () NC) ∗ atPos ER (cell c (kXs r)) 0 ∅ 0)
abbrev endPost (r : Fin 8) : sProp 𝕄 :=
  iprop(has c (rowOf mPv r) hL (pvC m c r) ∗ atPos ER (cell c (kYs r)) 1 ∅ 0 ∗ has c (rowOf mXs r) hL (xsC m c r) ∗ atPos ER (cell c (kXs r)) 1 ∅ 0)

theorem run_end (r : Fin 8) (k : BProg F) :
    iprop(recs m κ ∗ endPre (F := F) c r ∗ debt c 0) ⊢ iprop(((endPost m c r ∗ debt c 0) -∗ Runs c k Q) -∗ Runs c (sendWait r k) Q) := by
  unfold sendWait
  iintro ⟨#HR, ⟨Hc, Hat, Hc', Hat'⟩, HO⟩ Hk
  iapply (wp_recv m c κ (dst := rowOf mPv r) (0, r) 0 (keyYs r) (rfl : _ = NC) (above_zero _)) $$ [Hc HO Hat]
  · isplitr; · iexact HR
    isplitl [Hc]; · iexact Hc
    isplitl [HO]; · iexact HO
    iexact Hat
  iintro ⟨H, Hat, HO⟩
  iapply (wp_recv m c κ (dst := rowOf mXs r) (2, r) 0 (keyXs r) (rfl : _ = NC) (above_zero _)) $$ [Hc' HO Hat']
  · isplitr; · iexact HR
    isplitl [Hc']; · iexact Hc'
    isplitl [HO]; · iexact HO
    iexact Hat'
  iintro ⟨H', Hat', HO⟩
  ihave H := (show pay m c (0, r) ⊢ has c (rowOf mPv r) hL (pvC m c r) from BIBase.Entails.rfl) $$ H
  ihave H' := (show pay m c (2, r) ⊢ has c (rowOf mXs r) hL (xsC m c r) from BIBase.Entails.rfl) $$ H'
  iapply Hk
  isplitr [HO]
  · isplitl [H]; · iexact H
    isplitl [Hat]; · iexact Hat
    isplitl [H']; · iexact H'
    iexact Hat'
  iexact HO

end Cert.KernelIdeal
-- ==== Proof.Body.lean ====
/-
The whole body of one device, from what it starts with to what it leaves.
-/
module

public import proofs.«01_k».proof.Proof.Steps

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (κ : Dev nD × Key → ℕ)
variable (c : Dev nD) {Q : PUnit.{1} → sProp (MT nD τ sig Unit (Elt F) ℕ UU ℕ)}

/-- One piece for each of the eight blocks or chunks. -/
abbrev all8 (Φ : Fin 8 → sProp 𝕄) : sProp 𝕄 := bigSep Finset.univ Φ

/-- The first, the six in the middle, and the last. -/
theorem all8_split (Φ : Fin 8 → sProp 𝕄) :
    all8 Φ = iprop(Φ 0 ∗ (bigSep Finset.univ fun i : Fin 6 => Φ i.castSucc.succ) ∗ Φ 7) := by
  have h (Ψ : Fin 7 → sProp 𝕄) : bigSep Finset.univ Ψ = iprop(Ψ 6 ∗ bigSep Finset.univ fun i : Fin 6 => Ψ i.castSucc) := by
    rw [Fin.univ_castSuccEmb, Finset.cons_eq_insert, bigSep_insert (by simp [Fin.ext_iff]; omega), bigSep_map]; rfl
  rw [all8, bigSep_first, h, show (fun i : Fin 6 => Φ i.castSucc.succ) = fun i => (fun j : Fin 7 => Φ j.succ) i.castSucc from rfl]
  congr 1
  exact equiv_iff.mp ⟨BI.sep_comm, BI.sep_comm⟩

/-- What a device brings to chunk `r` of the first exchange. -/
abbrev sendG (r : Fin 8) : sProp 𝕄 :=
  iprop(any F c (rowOf mPv r) ∗ dutyTok ER (cell c (kYs r)) 0 false ∗ dutyTok ER (cell (yp c) (kYr r)) 0 false)
/-- What a device brings to chunk `r` of the second exchange. -/
abbrev redG (r : Fin 8) : sProp 𝕄 :=
  iprop(cred (tallyAt (cell c (kYr r)) () NC) ∗ atPos ER (cell c (kYr r)) 0 ∅ 0
    ∗ any F c (rowOf mXs r) ∗ dutyTok ER (cell c (kXs r)) 0 false ∗ dutyTok ER (cell (xp c) (kXr r)) 0 false
    ∗ any F c (pOwn c r) ∗ semZ c 2 r)
/-- Its place at the two send semaphores of chunk `r`. -/
abbrev endG (r : Fin 8) : sProp 𝕄 := iprop(atPos ER (cell c (kYs r)) 0 ∅ 0 ∗ atPos ER (cell c (kXs r)) 0 ∅ 0)

/-- What a device starts with. -/
def bodyPre : sProp 𝕄 :=
  iprop(debt c (O₀ c) ∗ all8 (startPre m c) ∗ all8 (fun i => any F c (pWt i)) ∗ any F c pAcc ∗ recvBufs (F := F) c
    ∗ dutyTok ER (cell (xp c) none) 0 false ∗ dutyTok ER (cell (yp c) none) 0 true
    ∗ cred (tallyAt (cell c none) () 2) ∗ atPos ER (cell c none) 0 ∅ 0
    ∗ all8 (sendG c) ∗ all8 (redG c) ∗ all8 (xPre c) ∗ all8 (endG c))

abbrev redKept (r : Fin 8) : sProp 𝕄 :=
  iprop(has c (rowOf mPv r) hR (pvC m c r) ∗ has c (rowOf mYr r) fullShare (pvC m (yp c) r) ∗ atPos ER (cell c (kYr r)) 1 ∅ 0)
abbrev outLoPost (r : Fin 8) : sProp 𝕄 :=
  iprop(has c (pOwn c r) fullShare (xsC m c r) ∗ has c (rowOf mXs r) hR (xsC m c r) ∗ semZ c 2 r)
abbrev outHiPost (r : Fin 8) : sProp 𝕄 :=
  iprop(has c (pOther c r) fullShare (xsC m (xp c) r) ∗ has c (rowOf mXr r) fullShare (xsC m (xp c) r) ∗ semZ c 3 r)

/-- What a device leaves. -/
def bodyPost : sProp 𝕄 :=
  iprop(debt c 0 ∗ all8 (doneB m c) ∗ has c pAcc fullShare (accC m c 6) ∗ atPos ER (cell c none) 1 ∅ 0
    ∗ all8 (redKept m c) ∗ all8 (fun r => atPos ER (cell c (kXr r)) 1 ∅ 0) ∗ all8 (outLoPost m c) ∗ all8 (outHiPost m c) ∗ all8 (endPost m c))

theorem to_send : iprop(all8 (sendG c) ∗ all8 (fun r => any F (yp c) (rowOf mYr r))) ⊢ all8 (sendPre (F := F) c) := by
  rw [all8, all8, ← bigSep_sep']
  refine bigSep_mono fun r _ => ?_
  show (_ : sProp 𝕄) ⊢ _
  iintro ⟨⟨H1, H2, H3⟩, H4⟩
  isplitl [H1]; · iexact H1
  isplitl [H4]; · iexact H4
  isplitl [H2] <;> iassumption

theorem to_red : iprop(all8 (sendPost m c) ∗ all8 (fun r => any F (xp c) (rowOf mXr r)) ∗ all8 (redG c))
    ⊢ iprop(all8 (redPre m c) ∗ all8 fun r => cred (tallyAt (cell c (kYs r)) () NC)) := by
  simp only [all8, ← bigSep_sep']
  refine bigSep_mono fun r _ => ?_
  show (_ : sProp 𝕄) ⊢ _
  iintro ⟨⟨H1, H2⟩, H3, H4, H5, H6, H7, H8, H9, H10⟩
  isplitr [H2]
  · isplitl [H1]; · iexact H1
    isplitl [H4]; · iexact H4
    isplitl [H5]; · iexact H5
    isplitl [H6]; · iexact H6
    isplitl [H3]; · iexact H3
    isplitl [H7]; · iexact H7
    isplitl [H8]; · iexact H8
    isplitl [H9] <;> iassumption
  · iexact H2

theorem from_red : all8 (redPost m c)
    ⊢ iprop(all8 (redKept m c) ∗ all8 (FlO m c) ∗ all8 fun r => cred (tallyAt (cell c (kXs r)) () NC)) := by
  simp only [all8, ← bigSep_sep']
  refine bigSep_mono fun r _ => ?_
  show (_ : sProp 𝕄) ⊢ _
  iintro ⟨H1, H2, H3, H4, H5⟩
  isplitl [H1 H2 H3]
  · isplitl [H1]; · iexact H1
    isplitl [H2] <;> iassumption
  · isplitl [H5] <;> iassumption

theorem to_end : iprop(all8 (fun r => cred (tallyAt (cell c (kYs r)) () NC)) ∗ all8 (fun r => cred (tallyAt (cell c (kXs r)) () NC)) ∗ all8 (endG c))
    ⊢ all8 (endPre (F := F) c) := by
  simp only [all8, ← bigSep_sep']
  refine bigSep_mono fun r _ => ?_
  show (_ : sProp 𝕄) ⊢ _
  iintro ⟨H1, H2, H3, H4⟩
  isplitl [H1]; · iexact H1
  isplitl [H3]; · iexact H3
  isplitl [H2] <;> iassumption

/-- What the contraction's block `i` starts from. -/
abbrev blkPre (i : Fin 8) : sProp 𝕄 := iprop(FlW m c i ∗ FlD m c i ∗ any F c (pWt i))

theorem to_blk : iprop(all8 (fun i => iprop(FlW m c i ∗ FlD m c i)) ∗ all8 (fun i => any F c (pWt i))) ⊢ all8 (blkPre m c) := by
  simp only [all8, ← bigSep_sep']
  refine bigSep_mono fun r _ => ?_
  show (_ : sProp 𝕄) ⊢ _
  iintro ⟨⟨H1, H2⟩, H3⟩
  isplitl [H1]; · iexact H1
  isplitl [H2] <;> iassumption

theorem above_start : Above 1 (owedX c 0 + owedY c 0) :=
  above_add (above_owedX (by decide) c 0) (above_owedY (by decide) c 0)
theorem above_start0 : Above 0 (owedX c 0 + owedY c 0) :=
  above_add (above_owedX (by decide) c 0) (above_owedY (by decide) c 0)

theorem ofNat_mid (i : Fin 6) : Fin.ofNat 8 (i.val + 1) = i.castSucc.succ := by revert i; decide

/-- The fetches, the handshake's first half and the contraction's first seven blocks; then block seven's operands. -/
theorem run_front (k : BProg F) :
    iprop(recs m κ ∗ debt c (O₀ c) ∗ all8 (startPre m c) ∗ all8 (fun i => any F c (pWt i)) ∗ any F c pAcc ∗ recvBufs (F := F) c
        ∗ dutyTok ER (cell (xp c) none) 0 false ∗ dutyTok ER (cell (yp c) none) 0 true)
      ⊢ iprop(((debt c (owedX c 0 + owedY c 0) ∗ doneB m c 0 ∗ (bigSep Finset.univ fun i : Fin 6 => doneB m c i.castSucc.succ)
          ∗ (doneW m c 7 ∗ doneD m c 7) ∗ lastB m c) -∗ Runs c k Q)
        -∗ Runs c (seqN 8 (startStep c) <| signals c <| gemm0 c <| seqN 6 (fun i => gemmStep c (i.castSucc.succ)) <| trStep 7 <| dyWait c 7 k) Q) := by
  iintro ⟨#HR, HO, Hs, Hwt, Ha, Hrb, Htx, Hty⟩ Hk
  iapply (wp_seqN c (R := recs m κ) (startStep c) (fun _ => iprop(emp)) (startPre m c) (fun i => iprop(FlW m c i ∗ FlD m c i)) (fun i k => run_start m κ c i k) _) $$ [Hs]
  · isplitr; · iexact HR
    isplitl [Hs]; · iexact Hs
    iempintro
  iintro ⟨Hf, -⟩
  iapply (run_signals m κ c (owedX c 0 + owedY c 0) _) $$ [Hrb HO Htx Hty]
  · isplitr; · iexact HR
    isplitl [Hrb]; · iexact Hrb
    isplitl [HO]; · iapply (Entails.of_eq (show debt c (O₀ c) = _ from rfl)) $$ HO
    isplitl [Htx] <;> iassumption
  iintro HO
  ihave Hb := (to_blk m c) $$ [Hf Hwt]
  · isplitl [Hf] <;> iassumption
  ihave Hb := (Entails.of_eq (all8_split (blkPre m c))) $$ Hb
  icases Hb with ⟨Hb0, Hbm, ⟨HW7, HD7, Ht7⟩⟩
  iapply (run_gemm0 m κ c (owedX c 0 + owedY c 0) (above_start0 c) _) $$ [Hb0 HO Ha]
  · isplitr; · iexact HR
    isplitl [Hb0]; · iexact Hb0
    isplitl [HO] <;> iassumption
  iintro ⟨Hd0, HO, Ha⟩
  iapply (wp_seqN c (R := recs m κ) (fun i : Fin 6 => gemmStep c (i.castSucc.succ))
    (fun n => iprop(debt c (owedX c 0 + owedY c 0) ∗ has c pAcc fullShare (accC m c n))) (fun i => blkPre m c i.castSucc.succ) (fun i => doneB m c i.castSucc.succ)
    (fun i k => run_gemm m κ c i.castSucc.succ i.val (ofNat_mid i) _ (above_start0 c) k) _) $$ [Hbm HO Ha]
  · isplitr; · iexact HR
    isplitl [Hbm]; · iexact Hbm
    isplitl [HO] <;> iassumption
  iintro ⟨Hdm, HO, Ha⟩
  iapply (run_tr m κ c 7 _ (above_start0 c) _) $$ [HW7 Ht7 HO]
  · isplitr; · iexact HR
    isplitl [HW7]; · iexact HW7
    isplitl [Ht7] <;> iassumption
  iintro ⟨HdW, Ht7, HO⟩
  iapply (run_dy m κ c 7 _ (above_start0 c) _) $$ [HD7 HO]
  · isplitr; · iexact HR
    isplitl [HD7] <;> iassumption
  iintro ⟨HdD, HD7, HO⟩
  iapply Hk
  isplitl [HO]; · iexact HO
  isplitl [Hd0]; · iexact Hd0
  isplitl [Hdm]; · iexact Hdm
  isplitl [HdW HdD]; · isplitl [HdW] <;> iassumption
  isplitl [HD7]; · iexact HD7
  isplitl [Ht7] <;> iassumption

theorem le_8_16 : 8 ≤ 16 := by decide

/-- The whole body. -/
theorem run_body : iprop(recs m κ ∗ bodyPre m c) ⊢ iprop((bodyPost m c -∗ Runs c (.ret ⟨⟩) Q) -∗ Runs c (prog c) Q) := by
  unfold bodyPre bodyPost prog
  iintro ⟨#HR, HO, Hs, Hwt, Ha, Hrb, Htx, Hty, Hcb, Hab, HsG, HrG, HxG, HeG⟩ Hk
  iapply (run_front m κ c _) $$ [HO Hs Hwt Ha Hrb Htx Hty]
  · isplitr; · iexact HR
    isplitl [HO]; · iexact HO
    isplitl [Hs]; · iexact Hs
    isplitl [Hwt]; · iexact Hwt
    isplitl [Ha]; · iexact Ha
    isplitl [Hrb]; · iexact Hrb
    isplitl [Htx] <;> iassumption
  iintro ⟨HO, Hd0, Hdm, ⟨HdW, HdD⟩, Hl⟩
  iapply (run_barWait m κ c _ (above_start c) _) $$ [HO Hcb Hab]
  · isplitr; · iexact HR
    isplitl [Hcb]; · iexact Hcb
    isplitl [HO] <;> iassumption
  iintro ⟨HX, HY, Hab, HO⟩
  ihave HsP := (to_send c) $$ [HsG HY]
  · isplitl [HsG] <;> iassumption
  iapply (wp_seqN c (R := recs m κ) (fun r => sendStep (yTo c r) r) (fun n => iprop(debt c (owedX c 0 + owedY c n) ∗ lastB m c))
    (sendPre (F := F) c) (sendPost m c) (fun r k => run_send m κ c r k) _) $$ [HsP HO Hl]
  · isplitr; · iexact HR
    isplitl [HsP]; · iexact HsP
    isplitl [HO]; · iexact HO
    iexact Hl
  iintro ⟨HsP, HO, ⟨HD7, Ht7, Ha⟩⟩
  ihave Hr := (to_red m c) $$ [HsP HX HrG]
  · isplitl [HsP]; · iexact HsP
    isplitl [HX] <;> iassumption
  icases Hr with ⟨Hr, HcYs⟩
  iapply (wp_seqN c (R := recs m κ) (fun r => redStep c (xTo c r) r) (fun n => debt c (owedX c n))
    (redPre m c) (redPost m c) (fun r k => run_red m κ c r k) _) $$ [Hr HO]
  · isplitr; · iexact HR
    isplitl [Hr]; · iexact Hr
    iapply (Entails.of_eq (show debt c (owedX c 0 + owedY c 8) = debt c (owedX c 0) from by rw [owedY, rem_eight, add_zero])) $$ HO
  iintro ⟨Hr, HO⟩
  ihave HO := (Entails.of_eq (show debt c (owedX c 8) = debt c 0 from by rw [owedX, rem_eight])) $$ HO
  ihave Hr := (from_red m c) $$ Hr
  icases Hr with ⟨Hkept, HfO, HcXs⟩
  iapply (wp_seqN c (R := recs m κ) (xStep c) (fun n => debt c 0) (xPre c) (xPost m c) (fun r k => run_x m κ c r k) _) $$ [HxG HO]
  · isplitr; · iexact HR
    isplitl [HxG] <;> iassumption
  iintro ⟨Hx, HO⟩
  ihave Hx := (Entails.of_eq (bigSep_sep' Finset.univ (fun r => atPos ER (cell c (kXr r)) 1 ∅ 0) (FlX m c))) $$ Hx
  icases Hx with ⟨HaX, HfX⟩
  iapply (wp_seqN c (R := recs m κ) (fun i : Fin 8 => outWait (i.castLE le_8_16)) (fun n => debt c 0) (FlO m c) (outLoPost m c) (fun r k => run_outLo m κ c r k) _) $$ [HfO HO]
  · isplitr; · iexact HR
    isplitl [HfO] <;> iassumption
  iintro ⟨HoL, HO⟩
  iapply (wp_seqN c (R := recs m κ) (fun i : Fin 8 => outWait (i.natAdd 8)) (fun n => debt c 0) (FlX m c) (outHiPost m c) (fun r k => run_outHi m κ c r k) _) $$ [HfX HO]
  · isplitr; · iexact HR
    isplitl [HfX] <;> iassumption
  iintro ⟨HoH, HO⟩
  ihave HeP := (to_end c) $$ [HcYs HcXs HeG]
  · isplitl [HcYs]; · iexact HcYs
    isplitl [HcXs] <;> iassumption
  iapply (wp_seqN c (R := recs m κ) sendWait (fun n => debt c 0) (endPre (F := F) c) (endPost m c) (fun r k => run_end m κ c r k) _) $$ [HeP HO]
  · isplitr; · iexact HR
    isplitl [HeP] <;> iassumption
  iintro ⟨He, HO⟩
  iapply Hk
  isplitl [HO]; · iexact HO
  isplitl [Hd0 Hdm HdW HdD HD7 Ht7]
  · iapply (Entails.of_eq (all8_split (doneB m c)).symm)
    isplitl [Hd0]; · iexact Hd0
    isplitl [Hdm]; · iexact Hdm
    isplitl [HdW]; · iexact HdW
    isplitl [HdD]; · iexact HdD
    isplitl [Ht7] <;> iassumption
  isplitl [Ha]; · iexact Ha
  isplitl [Hab]; · iexact Hab
  isplitl [Hkept]; · iexact Hkept
  isplitl [HaX]; · iexact HaX
  isplitl [HoL]; · iexact HoL
  isplitl [HoH]; · iexact HoH
  iexact He

end Cert.KernelIdeal
-- ==== Proof.Split.lean ====
/-
Buffers as pieces.

A buffer is cut into the blocks the body works on: each entry lies in exactly one block. Holding the buffer is holding
every block, and blocks held at their own contents are a buffer again.
-/
module

public import proofs.«01_k».proof.Proof.Body

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## Cutting and gluing -/

section Cut
variable {sh : Shape} {T : Type} [Fintype T]

/-- Entry `i` lies in block `p i` of `r` and in no other. -/
def Parts (r : T → Rect sh) (p : sh.Idx → T) : Prop := ∀ t i, i ∈ (r t).set ↔ p i = t

variable {r : T → Rect sh} {p : sh.Idx → T}

theorem Parts.apart (h : Parts r p) (t t' : T) (ht : t ≠ t') : Disjoint (r t).set (r t').set :=
  Finset.disjoint_left.mpr fun i hi hi' => ht (((h t i).mp hi).symm.trans ((h t' i).mp hi'))

theorem Parts.cover (h : Parts r p) : (Finset.univ : Finset T).biUnion (fun t => (r t).set) = Finset.univ :=
  Finset.eq_univ_iff_forall.mpr fun i => Finset.mem_biUnion.mpr ⟨p i, Finset.mem_univ _, (h (p i) i).mpr rfl⟩

theorem Parts.of_emb (h : Parts r p) (t : T) (j : (r t).shape.Idx) : p ((r t).emb j) = t :=
  (h t _).mp (by rw [← Rect.map_emb_univ]; exact Finset.mem_map_of_mem _ (Finset.mem_univ j))

/-- Contents of the blocks are contents of the buffer. -/
theorem Parts.glue (h : Parts r p) {α : Type} [Nonempty α] (G : (t : T) → (r t).shape.Idx → α) :
    ∃ X : sh.Idx → α, ∀ t, (fun j => X ((r t).emb j)) = G t := by
  classical
  refine ⟨fun i => if h : ∃ j, (r (p i)).emb j = i then G (p i) h.choose else Classical.arbitrary α, fun t => funext fun j => ?_⟩
  have key (t' : T) (ht : t' = t) (i : sh.Idx) (hi : (r t).emb j = i) :
      (if h : ∃ j, (r t').emb j = i then G t' h.choose else Classical.arbitrary α) = G t j := by
    subst ht
    have hex : ∃ j', (r t').emb j' = i := ⟨j, hi⟩
    rw [dif_pos hex]
    exact congrArg (G t') ((r t').emb.injective (hex.choose_spec.trans hi.symm))
  exact key _ (h.of_emb t j) _ rfl

variable (h : Parts r p) (d : Dev nD) {sp : Space} {e : EltTy} (M : Memref sig .tc sp sh e) (hr : ∀ t a, (r t).stride a = 1)
include h

theorem cut (q : PosShare TreeShare) (X : sh.Idx → Elt F e) :
    (has d M q X : sProp 𝕄) ⊢ bigSep Finset.univ fun t => has d (M.slice (r t) (hr t)) q (fun j => X ((r t).emb j)) :=
  owns_rects (nD := nD) (τ := τ) (sig := sig) (Val := Elt F) (Ix := Unit) (Name := ℕ) (U := UU) (Lvl := ℕ) (d.tc : Thread nD τ) M q r hr h.apart h.cover X

theorem cut_any : (any F d M : sProp 𝕄) ⊢ bigSep Finset.univ fun t => any F d (M.slice (r t) (hr t)) := by
  unfold any
  iintro ⟨%X, H⟩
  iapply ((cut h d M hr fullShare X).trans (bigSep_mono fun t _ => any_intro d (M.slice (r t) (hr t)) _))
  iexact H

variable [∀ e, Nonempty (Elt F e)]

theorem uncut (q : PosShare TreeShare) (X : sh.Idx → Elt F e) :
    (bigSep Finset.univ fun t => has d (M.slice (r t) (hr t)) q (fun j => X ((r t).emb j)) : sProp 𝕄) ⊢ has d M q X := by
  classical
  exact owns_of_rects (nD := nD) (τ := τ) (sig := sig) (Val := Elt F) (Ix := Unit) (Name := ℕ) (U := UU) (Lvl := ℕ) (d.tc : Thread nD τ) M q r hr h.apart h.cover X

theorem uncut_any : (bigSep Finset.univ fun t => any F d (M.slice (r t) (hr t)) : sProp 𝕄) ⊢ any F d M := by
  classical
  unfold any
  iintro H
  ihave H := (BI.bigSep_exists_pi Finset.univ (fun t (X : (r t).shape.Idx → Elt F e) => (has d (M.slice (r t) (hr t)) fullShare X : sProp 𝕄))) $$ H
  icases H with ⟨%G, H⟩
  obtain ⟨X, hX⟩ := h.glue G
  iexists X
  iapply (uncut h d M hr fullShare X)
  iapply (Entails.of_eq (bigSep_congr fun t _ => by rw [hX t]))
  iexact H

end Cut

/-! ## The blocks -/

/-- A place below `4096` by blocks of 512, one below `512` by blocks of 64. -/
theorem lt_512 {n : ℕ} (h : n < 4096) : n / 512 < 8 := by omega
theorem lt_64 {n : ℕ} (h : n < 512) : n / 64 < 8 := by omega

theorem parts_Wcol : Parts rWcol fun i => ⟨(i 1).val / 512, lt_512 (i 1).isLt⟩ := fun t i => by
  have h0 : (i 0).val < 1024 := (i 0).isLt
  rw [Rect.mem_set_unit, Fin.ext_iff]
  refine Fin.forall_fin_two.trans ?_
  show (0 ≤ (i 0).val ∧ (i 0).val < 0 + 1024) ∧ (512 * t.val ≤ (i 1).val ∧ (i 1).val < 512 * t.val + 512) ↔ (i 1).val / 512 = t.val
  omega
theorem parts_Wslab : Parts rWslab fun i => i 0 := fun t i => by
  have h1 : (i 1).val < 1024 := (i 1).isLt
  have h2 : (i 2).val < 512 := (i 2).isLt
  rw [Rect.mem_set_unit]
  constructor
  · intro h
    have h0 : t.val ≤ (i 0).val ∧ (i 0).val < t.val + 1 := h 0
    exact Fin.ext (show (i 0).val = t.val by omega)
  · intro h a
    have h : (i 0).val = t.val := congrArg Fin.val h
    fin_cases a
    · show t.val ≤ (i 0).val ∧ (i 0).val < t.val + 1; omega
    · show 0 ≤ (i 1).val ∧ (i 1).val < 0 + 1024; omega
    · show 0 ≤ (i 2).val ∧ (i 2).val < 0 + 512; omega
theorem parts_Dcol : Parts rDcol fun i => ⟨(i 1).val / 512, lt_512 (i 1).isLt⟩ := fun t i => by
  have h0 : (i 0).val < 512 := (i 0).isLt
  rw [Rect.mem_set_unit, Fin.ext_iff]
  refine Fin.forall_fin_two.trans ?_
  show (0 ≤ (i 0).val ∧ (i 0).val < 0 + 512) ∧ (512 * t.val ≤ (i 1).val ∧ (i 1).val < 512 * t.val + 512) ↔ (i 1).val / 512 = t.val
  omega
theorem parts_Wrow : Parts rWrow fun i => ⟨(i 0).val / 512, lt_512 (i 0).isLt⟩ := fun t i => by
  have h1 : (i 1).val < 1024 := (i 1).isLt
  rw [Rect.mem_set_unit, Fin.ext_iff]
  refine Fin.forall_fin_two.trans ?_
  show (512 * t.val ≤ (i 0).val ∧ (i 0).val < 512 * t.val + 512) ∧ (0 ≤ (i 1).val ∧ (i 1).val < 0 + 1024) ↔ (i 0).val / 512 = t.val
  omega
theorem parts_Row : Parts rRow fun i => ⟨(i 0).val / 64, lt_64 (i 0).isLt⟩ := fun t i => by
  have h1 : (i 1).val < 1024 := (i 1).isLt
  rw [Rect.mem_set_unit, Fin.ext_iff]
  refine Fin.forall_fin_two.trans ?_
  show (64 * t.val ≤ (i 0).val ∧ (i 0).val < 64 * t.val + 64) ∧ (0 ≤ (i 1).val ∧ (i 1).val < 0 + 1024) ↔ (i 0).val / 64 = t.val
  omega
theorem parts_Acc : Parts (fun _ : Unit => rAcc) fun i => () := fun t i => by
  have h0 : (i 0).val < 512 := (i 0).isLt
  have h1 : (i 1).val < 1024 := (i 1).isLt
  rw [Rect.mem_set_unit]
  refine Fin.forall_fin_two.trans ?_
  show (0 ≤ (i 0).val ∧ (i 0).val < 0 + 512) ∧ (0 ≤ (i 1).val ∧ (i 1).val < 0 + 1024) ↔ () = t
  exact ⟨fun _ => rfl, fun _ => by omega⟩

/-- The gradient shard's blocks: this device's rows (`false`) and the other half's. -/
abbrev rDy2 (c : Dev nD) (t : Bool × Fin 8) : Rect S1024x4096 := rDy (match t.1 with | false => c | true => xp c) t.2
/-- The result's chunks: this device's half (`false`) and the other. -/
abbrev rOut2 (c : Dev nD) (t : Bool × Fin 8) : Rect S1024x1024 :=
  Rect.unit (s := S1024x1024) ![512 * ((match t.1 with | false => c | true => xp c).val / 2) + 64 * t.2.val, 0] S64x1024.size
    (by obtain ⟨b, r⟩ := t; revert c b r; decide +kernel)

theorem half_eq (c : Dev nD) (b : Bool) : (match b with | false => c | true => xp c).val / 2 = if b then 1 - c.val / 2 else c.val / 2 := by
  revert c b; decide

theorem parts_Dy (c : Dev nD) : Parts (rDy2 c) fun i => (decide ((i 0).val / 512 ≠ c.val / 2), ⟨(i 1).val / 512, lt_512 (i 1).isLt⟩) := fun ⟨b, t⟩ i => by
  have h0 : (i 0).val < 1024 := (i 0).isLt
  have hc : c.val < 4 := c.isLt
  rw [Rect.mem_set_unit, Prod.ext_iff, Fin.ext_iff, dyOff_eq]
  refine Fin.forall_fin_two.trans ?_
  show (512 * ((match b with | false => c | true => xp c).val / 2) ≤ (i 0).val ∧ (i 0).val < 512 * ((match b with | false => c | true => xp c).val / 2) + 512)
    ∧ (512 * t.val ≤ (i 1).val ∧ (i 1).val < 512 * t.val + 512) ↔ decide ((i 0).val / 512 ≠ c.val / 2) = b ∧ (i 1).val / 512 = t.val
  rw [half_eq]
  cases b
  · rw [decide_eq_false_iff_not, if_neg (by decide)]; omega
  · rw [decide_eq_true_iff, if_pos rfl]; omega

theorem parts_Out (c : Dev nD) : Parts (rOut2 c) fun i => (decide ((i 0).val / 512 ≠ c.val / 2), ⟨(i 0).val % 512 / 64, lt_64 (Nat.mod_lt _ (by decide))⟩) := fun ⟨b, t⟩ i => by
  have h0 : (i 0).val < 1024 := (i 0).isLt
  have h1 : (i 1).val < 1024 := (i 1).isLt
  have hc : c.val < 4 := c.isLt
  rw [Rect.mem_set_unit, Prod.ext_iff, Fin.ext_iff]
  refine Fin.forall_fin_two.trans ?_
  show (512 * ((match b with | false => c | true => xp c).val / 2) + 64 * t.val ≤ (i 0).val ∧ (i 0).val < 512 * ((match b with | false => c | true => xp c).val / 2) + 64 * t.val + 64)
    ∧ (0 ≤ (i 1).val ∧ (i 1).val < 0 + 1024) ↔ decide ((i 0).val / 512 ≠ c.val / 2) = b ∧ (i 0).val % 512 / 64 = t.val
  rw [half_eq]
  cases b
  · rw [decide_eq_false_iff_not, if_neg (by decide)]; omega
  · rw [decide_eq_true_iff, if_pos rfl]; omega

theorem rOwn_eq (c : Dev nD) (r : Fin 8) : rOwn c r = rOut2 c (false, r) := by
  unfold rOwn rOut2; congr 1; exact Gen.k0_off9_eq c r
theorem rOther_eq (c : Dev nD) (r : Fin 8) : rOther c r = rOut2 c (true, r) := by
  unfold rOther rOut2; congr 1; rw [Gen.k0_off10_eq]; revert c r; decide

/-- A device's result: chunk `r` of half `a` is the sum at the device of that half. -/
theorem bigSep_half (Φ : Bool × Fin 8 → sProp 𝕄) :
    bigSep Finset.univ Φ = iprop(all8 (fun r => Φ (false, r)) ∗ all8 fun r => Φ (true, r)) := by
  rw [bigSep_univ_prod, bigSep_univ_eq_bigSepL [false, true] (by decide) (by decide), bigSepL_cons_cons, bigSepL_singleton]; rfl

end Cert.KernelIdeal
-- ==== Proof.Ends.lean ====
/-
What a device is handed, cut into what its body starts with; and what its body leaves, put together again.
-/
module

public import proofs.«01_k».proof.Proof.Split
public import Idealize.ShloMosaic.Lib.MemrefSat

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (κ : Dev nD × Key → ℕ) (c : Dev nD)

theorem each {Φ Ψ : Fin 8 → sProp 𝕄} (h : ∀ i, Φ i ⊢ Ψ i) : all8 Φ ⊢ all8 Ψ := bigSep_mono fun i _ => h i

/-! ## The buffers -/

/-- The device that computes a half of the result: this one, or its peer. -/
abbrev halfAt (c : Dev nD) : Bool → Dev nD
  | false => c
  | true => xp c

instance bf16_nonempty : Nonempty (Elt F .bf16) := Elt.nonempty F .bf16

/-- A device's final result: every chunk of either half is the sum computed at that half's device. -/
def outC : S1024x1024.Idx → Elt F .bf16 := ((parts_Out c).glue (α := Elt F .bf16) fun t => xsC m (halfAt c t.1) t.2).choose

theorem outC_emb (t : Bool × Fin 8) : (fun j => outC m c ((rOut2 c t).emb j)) = xsC m (halfAt c t.1) t.2 :=
  ((parts_Out c).glue (α := Elt F .bf16) fun t => xsC m (halfAt c t.1) t.2).choose_spec t

/-- Rectangles of one size at one place are one. -/
theorem has_unit {sp : Space} {sh : Shape} {e : EltTy} (M : Memref sig .tc sp sh e) (q : PosShare TreeShare)
    {off off' size : Fin sh.rank → ℕ} (h : off = off') (inb : ∀ a, off a + size a ≤ sh.size a) (inb' : ∀ a, off' a + size a ≤ sh.size a)
    (X : (⟨sh.rank, size⟩ : Shape).Idx → Elt F e) :
    (has c (M.slice (Rect.unit off size inb) (fun _ => rfl)) q X : sProp 𝕄) = has c (M.slice (Rect.unit off' size inb') (fun _ => rfl)) q X := by
  subst h; rfl
theorem any_unit {sp : Space} {sh : Shape} {e : EltTy} (M : Memref sig .tc sp sh e)
    {off off' size : Fin sh.rank → ℕ} (h : off = off') (inb : ∀ a, off a + size a ≤ sh.size a) (inb' : ∀ a, off' a + size a ≤ sh.size a) :
    any F c (M.slice (Rect.unit off size inb) (fun _ => rfl)) = any F c (M.slice (Rect.unit off' size inb') (fun _ => rfl)) := by
  subst h; rfl

theorem ownOff (r : Fin 8) : k0_off9 c (BitVec.ofNat 32 (64 * r.val)) = ![512 * (c.val / 2) + 64 * r.val, 0] := Gen.k0_off9_eq c r
theorem otherOff (r : Fin 8) : k0_off10 c (BitVec.ofNat 32 (64 * r.val)) = ![512 * ((xp c).val / 2) + 64 * r.val, 0] := by
  rw [Gen.k0_off10_eq]; revert c r; decide

/-- The blocks of the gradient shard the body never touches. -/
abbrev restDy (k : Fin 8) : sProp 𝕄 :=
  has c (mDy.slice (rDy (xp c) k) (fun _ => rfl)) fullShare (fun j => dyA m c ((rDy (xp c) k).emb j))

theorem dy_cut : (has c mDy fullShare (dyA m c) : sProp 𝕄) ⊢ iprop(all8 (fun k => has c (pDy c k) fullShare (dyB m c k)) ∗ all8 (restDy m c)) :=
  (cut (parts_Dy c) c mDy (fun _ _ => rfl) fullShare (dyA m c)).trans (Entails.of_eq (bigSep_half _))
theorem dy_uncut : iprop(all8 (fun k => has c (pDy c k) fullShare (dyB m c k)) ∗ all8 (restDy m c)) ⊢ (has c mDy fullShare (dyA m c) : sProp 𝕄) :=
  (Entails.of_eq (bigSep_half fun t => has c (mDy.slice (rDy2 c t) (fun _ => rfl)) fullShare (fun j => dyA m c ((rDy2 c t).emb j))).symm).trans
    (uncut (parts_Dy c) c mDy (fun _ _ => rfl) fullShare (dyA m c))

theorem out_cut : (any F c mOut : sProp 𝕄) ⊢ iprop(all8 (fun r => any F c (pOwn c r)) ∗ all8 (fun r => any F c (pOther c r))) := by
  refine (cut_any (parts_Out c) c mOut (fun _ _ => rfl)).trans ((Entails.of_eq (bigSep_half _)).trans (BI.sep_mono (bigSep_mono fun r _ => ?_) (bigSep_mono fun r _ => ?_)))
  · exact Entails.of_eq (any_unit c mOut (ownOff c r).symm _ _)
  · exact Entails.of_eq (any_unit c mOut (otherOff c r).symm _ _)
theorem out_uncut : iprop(all8 (fun r => has c (pOwn c r) fullShare (xsC m c r)) ∗ all8 (fun r => has c (pOther c r) fullShare (xsC m (xp c) r)))
    ⊢ (has c mOut fullShare (outC m c) : sProp 𝕄) := by
  refine BIBase.Entails.trans ?_ (uncut (parts_Out c) c mOut (fun _ _ => rfl) fullShare (outC m c))
  rw [bigSep_half]
  refine BI.sep_mono (bigSep_mono fun r _ => ?_) (bigSep_mono fun r _ => ?_)
  · rw [outC_emb]
    exact Entails.of_eq (has_unit c mOut fullShare (ownOff c r) _ _ (xsC m c r))
  · rw [outC_emb]
    exact Entails.of_eq (has_unit c mOut fullShare (otherOff c r) _ _ (xsC m (xp c) r))

theorem acc_cut : (any F c mAcc : sProp 𝕄) ⊢ any F c pAcc :=
  (cut_any parts_Acc c mAcc (fun _ _ => rfl)).trans (Entails.of_eq (bigSep_univ_of_subsingleton ()))
theorem acc_uncut : (any F c pAcc : sProp 𝕄) ⊢ any F c mAcc :=
  (Entails.of_eq (bigSep_univ_of_subsingleton (Φ := fun _ : Unit => any F c (mAcc.slice rAcc (fun _ => rfl))) ()).symm).trans (uncut_any parts_Acc c mAcc (fun _ _ => rfl))

/-- A device's scratch buffers, whatever is in them. -/
def scratch (F : FTy → Type) [FloatOps F] (c : Dev nD) : sProp (MT nD τ sig Unit (Elt F) ℕ UU ℕ) :=
  iprop(any F c mD ∗ any F c mWs ∗ any F c mWt ∗ any F c mAcc ∗ any F c mPv ∗ any F c mYr ∗ any F c mXs ∗ any F c mXr)

/-- The same, in pieces. -/
def scratchCut (F : FTy → Type) [FloatOps F] (c : Dev nD) : sProp (MT nD τ sig Unit (Elt F) ℕ UU ℕ) :=
  iprop(all8 (fun i => any F c (pD i)) ∗ all8 (fun i => any F c (pWs i)) ∗ all8 (fun i => any F c (pWt i)) ∗ any F c pAcc
    ∗ all8 (fun r => any F c (rowOf mPv r)) ∗ all8 (fun r => any F c (rowOf mYr r)) ∗ all8 (fun r => any F c (rowOf mXs r)) ∗ all8 (fun r => any F c (rowOf mXr r)))

theorem scratch_cut : scratch F c ⊢ scratchCut F c := by
  unfold scratch scratchCut
  exact BI.sep_mono (cut_any parts_Dcol c mD (fun _ _ => rfl)) (BI.sep_mono (cut_any parts_Wslab c mWs (fun _ _ => rfl))
    (BI.sep_mono (cut_any parts_Wrow c mWt (fun _ _ => rfl)) (BI.sep_mono (acc_cut c) (BI.sep_mono (cut_any parts_Row c mPv (fun _ _ => rfl))
      (BI.sep_mono (cut_any parts_Row c mYr (fun _ _ => rfl)) (BI.sep_mono (cut_any parts_Row c mXs (fun _ _ => rfl)) (cut_any parts_Row c mXr (fun _ _ => rfl))))))))
theorem scratch_uncut : scratchCut F c ⊢ scratch F c := by
  unfold scratch scratchCut
  exact BI.sep_mono (uncut_any parts_Dcol c mD (fun _ _ => rfl)) (BI.sep_mono (uncut_any parts_Wslab c mWs (fun _ _ => rfl))
    (BI.sep_mono (uncut_any parts_Wrow c mWt (fun _ _ => rfl)) (BI.sep_mono (acc_uncut c) (BI.sep_mono (uncut_any parts_Row c mPv (fun _ _ => rfl))
      (BI.sep_mono (uncut_any parts_Row c mYr (fun _ _ => rfl)) (BI.sep_mono (uncut_any parts_Row c mXs (fun _ _ => rfl)) (uncut_any parts_Row c mXr (fun _ _ => rfl))))))))

/-- A device's shards and its result buffer. -/
def shards : sProp 𝕄 := iprop(has c mDy fullShare (dyA m c) ∗ has c mW fullShare (wA m c) ∗ any F c mOut)
def shardsDone : sProp 𝕄 := iprop(has c mDy fullShare (dyA m c) ∗ has c mW fullShare (wA m c) ∗ has c mOut fullShare (outC m c))

/-! ## The semaphores -/

/-- All of a device's DMA semaphores at zero. -/
def dmaZ (F : FTy → Type) [FloatOps F] (c : Dev nD) : sProp (MT nD τ sig Unit (Elt F) ℕ UU ℕ) :=
  bigSep Finset.univ fun k : Fin 8 × Fin 8 => semZ c k.1 k.2

theorem dmaZ_eq : (dmaZ F c : sProp 𝕄) = iprop(all8 (semZ c 0) ∗ all8 (semZ c 1) ∗ all8 (semZ c 2) ∗ all8 (semZ c 3)
    ∗ all8 (semZ c 4) ∗ all8 (semZ c 5) ∗ all8 (semZ c 6) ∗ all8 (semZ c 7)) := by
  unfold dmaZ
  rw [bigSep_univ_prod, bigSep_univ_eq_bigSepL [0, 1, 2, 3, 4, 5, 6, 7] (by decide) (by decide)]; rfl

/-- What is held at each shared semaphore of a device. -/
theorem keys_eq (Φ : Key → sProp 𝕄) : bigSep Finset.univ Φ
    = iprop(Φ none ∗ all8 (fun r => Φ (kYs r)) ∗ all8 (fun r => Φ (kYr r)) ∗ all8 (fun r => Φ (kXs r)) ∗ all8 (fun r => Φ (kXr r))) := by
  rw [bigSep_univ_equiv (Equiv.optionEquivSumPUnit.{0} (Fin 4 × Fin 8)).symm, bigSep_univ_sum, bigSep_univ_of_subsingleton PUnit.unit,
    bigSep_univ_prod, bigSep_univ_eq_bigSepL [0, 1, 2, 3] (by decide) (by decide)]
  exact equiv_iff.mp ⟨BI.sep_comm, BI.sep_comm⟩

theorem close_cell (k : Key) : iprop(recs m κ ∗ atPos ER (cell c k) 1 ∅ 0) ⊢ (|={Set.univ}=> semVal (cell c k) 0 : sProp 𝕄) := by
  iintro ⟨#HR, Hat⟩
  imod (Rounds.cell_close ER (Rd m) (Set.mem_univ (κ (c, k))) (fun h => h) (R := 0 + 1) (duties_later m (cell c k))) $$ [Hat] with Hz
  · isplitr; · iapply (recs_inv m κ c k); iexact HR
    iexact Hat
  imodintro
  iexact Hz

theorem close_cells (f : Fin 8 → Key) :
    iprop(recs m κ ∗ all8 fun r => atPos ER (cell c (f r)) 1 ∅ 0) ⊢ (|={Set.univ}=> all8 fun r => semVal (cell c (f r)) 0 : sProp 𝕄) :=
  (bigSep_with_persistent fun r _ => close_cell m κ c (f r)).trans (bigSep_fupd _ _)

/-! ## The start -/

/-- A device's places at the shared semaphores. -/
def places (F : FTy → Type) [FloatOps F] (c : Dev nD) : sProp (MT nD τ sig Unit (Elt F) ℕ UU ℕ) :=
  bigSep Finset.univ fun k : Key => atPos ER (cell c k) 0 ∅ 0
/-- The duties a device pays. -/
def duties (F : FTy → Type) [FloatOps F] (c : Dev nD) : sProp (MT nD τ sig Unit (Elt F) ℕ UU ℕ) :=
  iprop(dutyTok ER (cell (xp c) none) 0 false ∗ dutyTok ER (cell (yp c) none) 0 true
    ∗ all8 (fun r => dutyTok ER (cell c (kYs r)) 0 false) ∗ all8 (fun r => dutyTok ER (cell (yp c) (kYr r)) 0 false)
    ∗ all8 (fun r => dutyTok ER (cell c (kXs r)) 0 false) ∗ all8 (fun r => dutyTok ER (cell (xp c) (kXr r)) 0 false))
/-- What the others owe a device. -/
def dues (F : FTy → Type) [FloatOps F] (c : Dev nD) : sProp (MT nD τ sig Unit (Elt F) ℕ UU ℕ) :=
  iprop(cred (tallyAt (cell c none) () 2) ∗ all8 (fun r => cred (tallyAt (cell c (kYr r)) () NC)) ∗ all8 (fun r => cred (tallyAt (cell c (kXr r)) () NC)))
/-- The semaphores of a device's own copies, at zero. -/
def localZ (F : FTy → Type) [FloatOps F] (c : Dev nD) : sProp (MT nD τ sig Unit (Elt F) ℕ UU ℕ) :=
  iprop(all8 (semZ c 0) ∗ all8 (semZ c 1) ∗ all8 (semZ c 2) ∗ all8 (semZ c 3))

/-- Everything a device is handed. -/
def given : sProp 𝕄 :=
  iprop(shards m c ∗ scratch F c ∗ localZ F c ∗ places F c ∗ duties F c ∗ dues F c)

theorem start_body : iprop(debt c (O₀ c) ∗ given m c) ⊢ iprop(bodyPre m c ∗ all8 (restDy m c)) := by
  unfold given shards localZ places duties dues bodyPre recvBufs
  rw [keys_eq]
  iintro ⟨HO, ⟨HDy, HW, HOut⟩, Hsc, ⟨Hz0, Hz1, Hz2, Hz3⟩, ⟨Hab, HaYs, HaYr, HaXs, HaXr⟩, ⟨Htx, Hty, HtYs, HtYr, HtXs, HtXr⟩, Hcb, HcYr, HcXr⟩
  ihave Hsc := (scratch_cut c) $$ Hsc
  unfold scratchCut
  icases Hsc with ⟨HD, HWs, HWt, HAcc, HPv, HYr, HXs, HXr⟩
  ihave HDy := (dy_cut m c) $$ HDy
  icases HDy with ⟨HDy, Hrest⟩
  ihave HW := (cut parts_Wcol c mW (fun _ _ => rfl) fullShare (wA m c)) $$ HW
  ihave HOut := (out_cut c) $$ HOut
  icases HOut with ⟨HOwn, HOther⟩
  ihave HWs := (each fun i => slab_any_out c i) $$ HWs
  isplitr [Hrest]
  · isplitl [HO]; · iexact HO
    isplitl [HW HWs Hz1 HDy HD Hz0]
    · simp only [startPre, bigSep_sep']
      isplitl [HW]; · iexact HW
      isplitl [HWs]; · iexact HWs
      isplitl [Hz1]; · iexact Hz1
      isplitl [HDy]; · iexact HDy
      isplitl [HD]; · iexact HD
      iexact Hz0
    isplitl [HWt]; · iexact HWt
    isplitl [HAcc]; · iexact HAcc
    isplitl [HXr HYr]
    · isplitl [HXr]; · iexact HXr
      iexact HYr
    isplitl [Htx]; · iexact Htx
    isplitl [Hty]; · iexact Hty
    isplitl [Hcb]; · iexact Hcb
    isplitl [Hab]; · iexact Hab
    isplitl [HPv HtYs HtYr]
    · simp only [sendG, bigSep_sep']
      isplitl [HPv]; · iexact HPv
      isplitl [HtYs]; · iexact HtYs
      iexact HtYr
    isplitl [HcYr HaYr HXs HtXs HtXr HOwn Hz2]
    · simp only [redG, bigSep_sep']
      isplitl [HcYr]; · iexact HcYr
      isplitl [HaYr]; · iexact HaYr
      isplitl [HXs]; · iexact HXs
      isplitl [HtXs]; · iexact HtXs
      isplitl [HtXr]; · iexact HtXr
      isplitl [HOwn]; · iexact HOwn
      iexact Hz2
    isplitl [HcXr HaXr HOther Hz3]
    · simp only [xPre, bigSep_sep']
      isplitl [HcXr]; · iexact HcXr
      isplitl [HaXr]; · iexact HaXr
      isplitl [HOther]; · iexact HOther
      iexact Hz3
    · simp only [endG, bigSep_sep']
      isplitl [HaYs]; · iexact HaYs
      iexact HaXs
  · iexact Hrest

/-! ## The end -/

/-- Everything a device gives back. -/
def given' : sProp 𝕄 := iprop(shardsDone m c ∗ scratch F c ∗ dmaZ F c ∗ semVal (cell c none) 0)

/-- Rows held in halves are rows. -/
theorem rows_join {sp : Space} {e : EltTy} (M : Memref sig .tc sp S512x1024 e) (X : Fin 8 → S64x1024.Idx → Elt F e) :
    iprop(all8 (fun r => has c (rowOf M r) hL (X r)) ∗ all8 fun r => has c (rowOf M r) hR (X r)) ⊢ all8 fun r => any F c (rowOf M r) := by
  rw [all8, all8, ← bigSep_sep']
  exact bigSep_mono fun r _ => ((owns_halves (c.tc : Thread nD τ) (rowOf M r) fullShare (X r)).2).trans (any_intro c (rowOf M r) (X r))

theorem end_body : iprop(recs m κ ∗ bodyPost m c ∗ all8 (restDy m c)) ⊢ (|={Set.univ}=> iprop(debt c 0 ∗ given' m c) : sProp 𝕄) := by
  unfold bodyPost given' shardsDone
  rw [dmaZ_eq]
  simp only [doneB, doneW, doneD, redKept, outLoPost, outHiPost, endPost, all8, bigSep_sep']
  iintro ⟨#HR, ⟨HO, ⟨⟨HWs, HW, Hz1⟩, ⟨HDy, Hz0⟩, HWt, HD⟩, HAcc, Hab, ⟨HPvR, HYr, HaYr⟩, HaXr, ⟨HOwn, HXsR, Hz2⟩, ⟨HOther, HXr, Hz3⟩, ⟨HPvL, HaYs, HXsL, HaXs⟩⟩, Hrest⟩
  imod (close_cell m κ c none) $$ [Hab] with Hzb
  · isplitr; · iexact HR
    iexact Hab
  imod (close_cells m κ c kYs) $$ [HaYs] with Hz4
  · isplitr; · iexact HR
    iexact HaYs
  imod (close_cells m κ c kYr) $$ [HaYr] with Hz5
  · isplitr; · iexact HR
    iexact HaYr
  imod (close_cells m κ c kXs) $$ [HaXs] with Hz6
  · isplitr; · iexact HR
    iexact HaXs
  imod (close_cells m κ c kXr) $$ [HaXr] with Hz7
  · isplitr; · iexact HR
    iexact HaXr
  imodintro
  isplitl [HO]; · iexact HO
  isplitl [HDy Hrest HW HOwn HOther]
  · isplitl [HDy Hrest]
    · iapply (dy_uncut m c)
      isplitl [HDy] <;> iassumption
    isplitl [HW]
    · iapply (uncut parts_Wcol c mW (fun _ _ => rfl) fullShare (wA m c)); iexact HW
    · iapply (out_uncut m c)
      isplitl [HOwn] <;> iassumption
  isplitl [HD HWs HWt HAcc HPvL HPvR HYr HXsL HXsR HXr]
  · iapply (scratch_uncut c)
    unfold scratchCut
    isplitl [HD]; · iapply (each fun i => any_intro c (pD i) (dyB m c i)); iexact HD
    isplitl [HWs]; · iapply (each fun i => slab_any_in c i (wB m c i)); iexact HWs
    isplitl [HWt]; · iapply (each fun i => any_intro c (pWt i) (wT m c i)); iexact HWt
    isplitl [HAcc]; · iapply (any_intro c pAcc (accC m c 6)); iexact HAcc
    isplitl [HPvL HPvR]
    · iapply (rows_join c mPv (pvC m c))
      isplitl [HPvL] <;> iassumption
    isplitl [HYr]; · iapply (each fun r => any_intro c (rowOf mYr r) (pvC m (yp c) r)); iexact HYr
    isplitl [HXsL HXsR]
    · iapply (rows_join c mXs (xsC m c))
      isplitl [HXsL] <;> iassumption
    · iapply (each fun r => any_intro c (rowOf mXr r) (xsC m (xp c) r)); iexact HXr
  isplitr [Hzb]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  · iexact Hzb

/-- One device, from what it is handed to what it gives back. -/
theorem run_device {Q : PUnit.{1} → sProp (MT nD τ sig Unit (Elt F) ℕ UU ℕ)} :
    iprop(recs m κ ∗ debt c (O₀ c) ∗ given m c) ⊢ iprop((iprop(debt c 0 ∗ given' m c) -∗ Q ⟨⟩) -∗ Runs c (prog c) Q) := by
  iintro ⟨#HR, HO, Hg⟩ Hk
  ihave H := (start_body m c) $$ [HO Hg]
  · isplitl [HO] <;> iassumption
  icases H with ⟨Hpre, Hrest⟩
  iapply (run_body m κ c) $$ [Hpre]
  · isplitr; · iexact HR
    iexact Hpre
  iintro Hpost
  iapply (Entails.of_eq (wp_ret (Fr := frame) (wpE := wpE (defs₀ (F := F)) 𝒱₀ (c.tc : Thread nD τ) none) (E := Set.univ) PUnit.unit Q).symm)
  imod (end_body m κ c) $$ [Hpost Hrest] with H
  · isplitr; · iexact HR
    isplitl [Hpost] <;> iassumption
  imodintro
  iapply Hk
  iexact H

end Cert.KernelIdeal
-- ==== Proof.Launch.lean ====
/-
The launch: the shared semaphores' invariants made for all devices at once, what each device is handed, and the run of
the whole program.
-/
module

public import proofs.«01_k».proof.Proof.Ends
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen (cellOf_inj winFacts0 block_pos0 arr_whole0 stage_whole0 scopedRest0_eq unscopedRest0_eq)
open Facts₀ Facts

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What is made before the start -/

/-- The DMA semaphores, all the kernel's own. -/
abbrev osem (k : Fin 8 × Fin 8) : SemLoc sig := .dma (sm k.1 k.2)
theorem ownSemFacts : Pipeline.OwnSemFacts cfg0.spec osem := by decide +kernel

theorem cell_inj : Function.Injective (fun ck : Dev nD × Key => cell ck.1 ck.2) := fun a b h => by
  have h1 : a.1 = b.1 := congrArg (fun g : GSem nD τ sig => g.1.1) h
  have h2 : a.2 = b.2 := keySem_inj (congrArg Prod.snd h)
  exact Prod.ext h1 h2
def ringCells : Finset (GSem nD τ sig) := Finset.univ.map ⟨_, cell_inj⟩

/-- The duties of a device's semaphores: one each, and a second one at the barrier. -/
abbrev tokOf (ck : Dev nD × Option Key) : GSem nD τ sig × ℕ × Bool :=
  match ck.2 with
  | none => (cell ck.1 none, 0, true)
  | some k => (cell ck.1 k, 0, false)
theorem tokOf_inj : Function.Injective tokOf := fun ⟨a, k⟩ ⟨b, l⟩ h => by
  rcases k with _ | k <;> rcases l with _ | l
  · have := cell_inj (a₁ := (a, none)) (a₂ := (b, none)) (congrArg (fun x => x.1) h)
    cases this; rfl
  · exact absurd (congrArg (fun x => x.2.2) h) (fun h' => by cases h')
  · exact absurd (congrArg (fun x => x.2.2) h) (fun h' => by cases h')
  · have := cell_inj (a₁ := (a, k)) (a₂ := (b, l)) (congrArg (fun x => x.1) h)
    cases this; rfl
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

/-- The duties at a device's own semaphores. -/
def toks (F : FTy → Type) [FloatOps F] (c : Dev nD) : sProp (MT nD τ sig Unit (Elt F) ℕ UU ℕ) :=
  iprop(dutyTok ER (cell c none) 0 true ∗ bigSep Finset.univ fun k : Key => dutyTok ER (cell c k) 0 false)
/-- A device's rounds, places and duties, before any invariant. -/
def made : sProp 𝕄 :=
  iprop((bigSep Finset.univ fun k : Key => roundState ER (Rd m) (cell c k) 0)
    ∗ (bigSep Finset.univ fun k : Key => iprop(atPos ER (cell c k) 0 ∅ 0 ∗ reached ER (cell c k) 0)) ∗ toks F c)

theorem fund_ring : BI.own (ER (initOf ringCells ringToks)) ⊢ (|==> bigSep Finset.univ (made m) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => toks F c := by
    unfold ringToks; rw [bigSep_map, bigSep_univ_prod]
    exact bigSep_congr fun c _ => by
      unfold toks
      rw [bigSep_univ_equiv (Equiv.optionEquivSumPUnit.{0} Key).symm, bigSep_univ_sum, bigSep_univ_of_subsingleton PUnit.unit]
      exact equiv_iff.mp ⟨BI.sep_comm, BI.sep_comm⟩
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold made; simp only [bigSep_sep']
  isplitl [Hst']; · iexact Hst'
  isplitl [Hat' Hr']
  · isplitl [Hat'] <;> iassumption
  iexact Htok'

theorem ownSems0_eq : (Pipeline.ownSems0 (Ix := Unit) (Name := ℕ) (U := UU) (Lvl := ℕ) (Val := Elt F) (τ := τ) osem c : sProp 𝕄) = dmaZ F c := rfl
/-- The barrier is the one semaphore outside the kernel's own. -/
theorem unscopedSems0_eq : (unscopedSems0 c : sProp 𝕄) = semVal (cell c none) 0 := by
  unfold unscopedSems0; rw [bigSep_eq_bigSepL_of_eq [SemLoc.reg barS] (by decide +kernel) (by decide +kernel)]; rfl

theorem sems_split : iprop(dmaZ F c ∗ semVal (cell c none) 0)
    ⊢ (iprop(localZ F c ∗ bigSep Finset.univ fun k : Key => semVal (cell c k) 0) : sProp 𝕄) := by
  rw [dmaZ_eq, keys_eq]; unfold localZ
  iintro ⟨⟨H0, H1, H2, H3, H4, H5, H6, H7⟩, HB⟩
  isplitl [H0 H1 H2 H3]
  · isplitl [H0]; · iexact H0
    isplitl [H1]; · iexact H1
    isplitl [H2] <;> iassumption
  isplitl [HB]; · iexact HB
  isplitl [H4]; · iexact H4
  isplitl [H5]; · iexact H5
  isplitl [H6]; · iexact H6
  iexact H7

/-! ## All devices at once -/

/-- A device's share once its semaphores have invariants. -/
def opened : sProp 𝕄 :=
  iprop((bigSep Finset.univ fun k : Key => iprop(∃ κ : ℕ, cellInv ER (Rd m) κ (cell c k)))
    ∗ (bigSep Finset.univ fun k : Key => reached ER (cell c k) 0) ∗ localZ F c ∗ places F c ∗ toks F c)

theorem open_cells : iprop((bigSep Finset.univ fun k : Key => semVal (cell c k) 0) ∗ bigSep Finset.univ fun k : Key => roundState ER (Rd m) (cell c k) 0)
    ⊢ (|={Set.univ}=> bigSep Finset.univ fun k : Key => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

theorem open_device : iprop(dmaZ F c ∗ semVal (cell c none) 0 ∗ made m c) ⊢ (|={Set.univ}=> opened m c : sProp 𝕄) := by
  unfold made opened places
  rw [bigSep_sep']
  iintro ⟨Hd, Hb, Hst, ⟨Hat, Hr⟩, Htok⟩
  ihave H := (sems_split (F := F) c) $$ [Hd Hb]
  · isplitl [Hd] <;> iassumption
  icases H with ⟨Hl, Hk⟩
  imod (open_cells m c) $$ [Hk Hst] with HI
  · isplitl [Hk] <;> iassumption
  imodintro
  isplitl [HI]; · iexact HI
  isplitl [Hr]; · iexact Hr
  isplitl [Hl]; · iexact Hl
  isplitl [Hat] <;> iassumption

/-- The invariants and that each is open. -/
def known (κ : Dev nD × Key → ℕ) : sProp 𝕄 :=
  iprop((bigSep Finset.univ fun ck : Dev nD × Key => cellInv ER (Rd m) (κ ck) (cell ck.1 ck.2))
    ∗ bigSep Finset.univ fun ck : Dev nD × Key => reached ER (cell ck.1 ck.2) 0)
instance known_persistent (κ : Dev nD × Key → ℕ) : BI.Persistent (known m κ) := by unfold known; infer_instance

/-- What a device has of the protocol when it starts. -/
def protocol : sProp 𝕄 := iprop((∃ κ, known m κ) ∗ localZ F c ∗ places F c ∗ duties F c)

/-- Each duty goes to the device that pays it. -/
theorem deal : (bigSep Finset.univ fun c : Dev nD => toks F c) ⊢ (bigSep Finset.univ fun c : Dev nD => duties F c : sProp 𝕄) := by
  have hx (k : Key) (b : Bool) : (bigSep Finset.univ fun c : Dev nD => (dutyTok ER (cell c k) 0 b : sProp 𝕄))
      = bigSep Finset.univ fun c : Dev nD => dutyTok ER (cell (xp c) k) 0 b := bigSep_univ_equiv xpE _
  have hy (k : Key) (b : Bool) : (bigSep Finset.univ fun c : Dev nD => (dutyTok ER (cell c k) 0 b : sProp 𝕄))
      = bigSep Finset.univ fun c : Dev nD => dutyTok ER (cell (yp c) k) 0 b := bigSep_univ_equiv ypE _
  have hswap (Φ : Dev nD → Fin 8 → sProp 𝕄) : (bigSep Finset.univ fun c : Dev nD => all8 (Φ c)) = all8 fun r => bigSep Finset.univ fun c : Dev nD => Φ c r := by
    rw [all8, ← bigSep_univ_prod (fun x : Fin 8 × Dev nD => Φ x.2 x.1), bigSep_univ_equiv (Equiv.prodComm (Dev nD) (Fin 8)),
      bigSep_univ_prod]; rfl
  unfold toks duties
  simp only [keys_eq, bigSep_sep', hswap]
  rw [hy none true, hx none false]
  simp only [fun r : Fin 8 => hy (kYr r) false, fun r : Fin 8 => hx (kXr r) false]
  iintro ⟨Hty, Htx, H4, H5, H6, H7⟩
  isplitl [Htx]; · iexact Htx
  isplitl [Hty]; · iexact Hty
  isplitl [H4]; · iexact H4
  isplitl [H5]; · iexact H5
  isplitl [H6]; · iexact H6
  iexact H7

theorem regroup : bigSep Finset.univ (opened m) ⊢ (bigSep Finset.univ (protocol m) : sProp 𝕄) := by
  show (bigSep Finset.univ fun c : Dev nD => opened m c) ⊢ bigSep Finset.univ fun c : Dev nD => protocol m c
  unfold opened
  simp only [bigSep_sep']
  rw [← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  iintro ⟨HI, #HR, Hl, Hp, Ht⟩
  ihave HK := (BI.bigSep_exists_pi Finset.univ (fun (ck : Dev nD × Key) (κ : ℕ) => (cellInv ER (Rd m) κ (cell ck.1 ck.2) : sProp 𝕄))) $$ HI
  icases HK with ⟨%κ, #HI⟩
  ihave Hd := (deal (F := F)) $$ Ht
  iapply (show iprop(known m κ ∗ bigSep Finset.univ fun c : Dev nD => iprop(localZ F c ∗ places F c ∗ duties F c)) ⊢ (bigSep Finset.univ fun c : Dev nD => protocol m c : sProp 𝕄)
    from bigSep_with_persistent fun c _ => by
      unfold protocol
      iintro ⟨#HK, H⟩
      isplitr
      · iexists κ; iexact HK
      iexact H)
  isplitr
  · unfold known; isplitl; · iexact HI
    iexact HR
  · simp only [bigSep_sep']
    isplitl [Hl]; · iexact Hl
    isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ made m c) : sProp 𝕄)
    ⊢ |={Set.univ}=> bigSep Finset.univ (protocol m) :=
  ((bigSep_mono fun c _ => (show iprop(Pipeline.ownSems0 osem c ∗ unscopedSems0 c ∗ made m c) ⊢ _ by
    rw [ownSems0_eq, unscopedSems0_eq]; exact open_device m c)).trans (bigSep_fupd _ _)).trans (BI.fupd_mono (regroup m))

/-! ## What the others owe a device -/

theorem cell_eq_iff {a b : Dev nD} {k l : Key} : Iff (cell a k = cell b l) (a = b ∧ k = l) :=
  ⟨fun h => Prod.ext_iff.mp (cell_inj (a₁ := (a, k)) (a₂ := (b, l)) h), fun h => by rw [h.1, h.2]⟩

theorem tally_cell (a b : Dev nD) (k l : Key) (n : ℕ) :
    (tallyAt (cell a k) () n : CellTallies nD τ sig Unit) (cell b l) () = if b = a ∧ l = k then n else 0 := by
  rw [tallyAt_apply]
  exact if_congr (by rw [cell_eq_iff]; exact ⟨fun h => h.1, fun h => ⟨h, rfl⟩⟩) rfl rfl

theorem sum_at (f : Fin 8 → CellTallies nD τ sig Unit) (g : GSem nD τ sig) : (rem f 0) g () = ∑ r, f r g () := by
  rw [rem_zero, Finset.sum_apply, Finsupp.finset_sum_apply]

theorem owed_at (d : Dev nD) (l : Key) : O₀ d (cell c l) ()
    = (((∑ r, if c = xp d ∧ l = kXr r then NC else 0) + (∑ r, if c = yp d ∧ l = kYr r then NC else 0))
      + (if c = yp d ∧ l = none then 1 else 0)) + (if c = xp d ∧ l = none then 1 else 0) := by
  unfold O₀ owedX owedY
  simp only [Pi.add_apply, Finsupp.add_apply, sum_at, tally_cell]

theorem bar_total : ∀ c : Dev nD, (∑ d : Dev nD, ((if c = yp d then 1 else 0) + (if c = xp d then 1 else 0))) = 2 := by decide
theorem one_of (f : Dev nD → Dev nD) (hf : ∀ c, f (f c) = c) (n : ℕ) : (∑ d : Dev nD, if c = f d then n else 0) = n := by
  rw [Finset.sum_congr rfl fun d _ => if_congr (show Iff (c = f d) (d = f c) from ⟨fun h => by rw [h, hf], fun h => by rw [h, hf]⟩) rfl rfl,
    Finset.sum_ite_eq', if_pos (Finset.mem_univ _)]

theorem total_bar : ∑ d, O₀ d (cell c none) () = 2 := by
  simp only [owed_at]
  rw [← bar_total c]
  refine Finset.sum_congr rfl fun d _ => ?_
  simp
theorem total_kYr (r : Fin 8) : ∑ d, O₀ d (cell c (kYr r)) () = NC := by
  rw [← one_of c yp yp_yp NC]
  refine Finset.sum_congr rfl fun d _ => ?_
  rw [owed_at, Finset.sum_eq_single_of_mem r (Finset.mem_univ r) (f := fun s => if c = yp d ∧ kYr r = kYr s then NC else 0)
    (fun s _ hs => if_neg fun h => hs (by have h2 := h.2; cases h2; rfl))]
  simp
theorem total_kXr (r : Fin 8) : ∑ d, O₀ d (cell c (kXr r)) () = NC := by
  rw [← one_of c xp xp_xp NC]
  refine Finset.sum_congr rfl fun d _ => ?_
  rw [owed_at, Finset.sum_eq_single_of_mem r (Finset.mem_univ r) (f := fun s => if c = xp d ∧ kXr r = kXr s then NC else 0)
    (fun s _ hs => if_neg fun h => hs (by have h2 := h.2; cases h2; rfl))]
  simp

theorem credit_at (k : Key) : tallyOn (cell c k) (launchCredit (Pipeline.owing O₀) 0 (cell c k))
    = (tallyAt (cell c k) () (∑ d, O₀ d (cell c k) ()) : CellTallies nD τ sig Unit) := by
  unfold tallyAt; refine congrArg _ (Finsupp.ext fun u => ?_); cases u
  rw [Pipeline.launchCredit_owing, Finsupp.single_eq_same]

theorem creds : (Pipeline.launchCred O₀ c : sProp 𝕄) ⊢ dues F c := by
  unfold Pipeline.launchCred dues
  refine (bigSep_subset (Finset.subset_univ (Finset.univ.map ⟨keySem, keySem_inj⟩))).trans ?_
  rw [bigSep_map]
  refine (Entails.of_eq ((bigSep_congr fun k _ => congrArg cred (credit_at c k)).trans (keys_eq _))).trans ?_
  simp only [total_bar, total_kYr, total_kXr]
  iintro ⟨H0, -, HY, -, HX⟩
  isplitl [H0]; · iexact H0
  isplitl [HY] <;> iassumption

/-! ## Each device -/

/-- What a device starts with, its scratch apart. -/
def start : sProp 𝕄 := iprop((∃ κ, recs m κ) ∗ shards m c ∗ localZ F c ∗ places F c ∗ duties F c ∗ dues F c)

def dats (_ : Fin 1) (c : Dev nD) : Dat τ (Elt F) Unit ℕ UU ℕ cfg0 c where
  A w := m ((cfg0.win w).arr.view.loc (c.tc : Thread nD τ))
  after w := w.elim0
  Φ t := match t with
    | ⟨0, _⟩ => iprop(start m c ∗ scratch F c)
    | ⟨_ + 1, _⟩ => given' m c
  q _ := fullShare
  owed t := match t with
    | ⟨0, _⟩ => O₀ c
    | ⟨_ + 1, _⟩ => 0

set_option maxRecDepth 8000 in
theorem body_obligation : BodyObligation (dats m 0 c) (defs₀ (F := F)) 𝒱₀ () Set.univ := fun t => by
  have hW : (Finset.univ : Finset (Fin cfg0.W)) = ∅ := rfl
  rw [Gen.fin_N0 t, hW, bigSep_empty, bigSep_empty]
  have h0 : (dats m 0 c).Φ Gen.t0_0.castSucc = iprop(start m c ∗ scratch F c) := rfl
  have h1 : (dats m 0 c).Φ Gen.t0_0.succ = given' m c := rfl
  have h2 : (dats m 0 c).owed Gen.t0_0.castSucc = O₀ c := rfl
  have h3 : (dats m 0 c).owed Gen.t0_0.succ = 0 := rfl
  have h4 : (defs₀ (F := F)) .tc cfg0.body (cfg0.bodyArgs Gen.t0_0 (cfg0.slots Gen.t0_0)) = Gen.bodyAt0 (F := F) Gen.t0_0 := rfl
  unfold Dat.owesAt Pipeline.owesWithin
  rw [h0, h1, h2, h3, h4, body_eq, wp_deviceId]
  unfold start
  iintro ⟨⟨⟨⟨%κ, #HR⟩, Hrest⟩, Hsc⟩, ⟨%W, %hW, HO⟩, -⟩
  iapply (run_device m κ c) $$ [Hrest Hsc HO]
  · isplitr; · iexact HR
    isplitl [HO]
    · unfold debt; iexists W; iexact HO
    · unfold given
      icases Hrest with ⟨Hsh, Hl⟩
      isplitl [Hsh]; · iexact Hsh
      isplitl [Hsc]; · iexact Hsc
      iexact Hl
  iintro ⟨HO, Hg⟩
  isplitl [Hg]; · iexact Hg
  isplitl [HO]
  · unfold debt
    icases HO with ⟨%W', HO⟩
    iexists W'
    isplitr
    · ipureintro; exact fun _ _ => Or.inl trivial
    · iexact HO
  · iempintro

/-! ## The run -/

theorem shards_intro : (Pipeline.unscopedRestP Pipeline.Prefetch.none cfg0.spec c (fun b => m ((c.tc : Thread nD τ).loc b)) : sProp 𝕄) ⊢ shards m c := by
  rw [Pipeline.unscopedRestP_none, unscopedRest0_eq]
  unfold shards
  iintro ⟨H0, H1, H2⟩
  isplitl [H0]
  · iapply (Entails.of_eq (owns_whole (c.tc : Thread nD τ) main_arg0 fullShare (dyA m c)).symm); iexact H0
  isplitl [H1]
  · iapply (Entails.of_eq (owns_whole (c.tc : Thread nD τ) main_arg1 fullShare (wA m c)).symm); iexact H1
  · iapply (any_intro c mOut (m ((c.tc : Thread nD τ).loc main_v1)))
    iapply (Entails.of_eq (owns_whole (c.tc : Thread nD τ) main_v1 fullShare _).symm); iexact H2

theorem start_intro : iprop(Pipeline.unscopedRestP Pipeline.Prefetch.none cfg0.spec c (fun b => m ((c.tc : Thread nD τ).loc b)) ∗ levAts L lv
        ∗ Pipeline.launchCred O₀ c ∗ prngReg c (ρ c) ∗ protocol m c)
      ⊢ (|={Set.univ}=> iprop(start m c ∗ emp) : sProp 𝕄) := by
  unfold protocol start
  iintro ⟨Hs, Hlev, Hcr, -, ⟨%κ, HK⟩, Hl, Hp, Hd⟩
  ihave Hc := (creds (F := F) c) $$ Hcr
  ihave Hs := (shards_intro m c) $$ Hs
  imodintro
  isplitl
  · isplitl [HK Hlev]
    · iexists κ
      unfold known recs
      icases HK with ⟨HI, HR⟩
      isplitl [HI]; · iexact HI
      isplitl [HR] <;> iassumption
    isplitl [Hs]; · iexact Hs
    isplitl [Hl]; · iexact Hl
    isplitl [Hp]; · iexact Hp
    isplitl [Hd] <;> iassumption
  · iempintro

theorem any_whole (b : Ref sig .tc) :
    (any F c (Memref.whole b) : sProp 𝕄) = iprop(∃ f : Buf (Elt F) ((c.tc : Thread nD τ).loc b), ((c.tc : Thread nD τ).loc b) ↦{fullShare} f) := by
  unfold any
  exact congrArg _ (funext fun f => owns_whole (c.tc : Thread nD τ) b fullShare f)

theorem scratch_eq : (Pipeline.scopedRest (Ix := Unit) (Name := ℕ) (U := UU) (Lvl := ℕ) (Val := Elt F) cfg0.spec c : sProp 𝕄) = scratch F c := by
  rw [scopedRest0_eq]
  unfold scratch
  simp only [any_whole]

theorem phi_start : iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch F c) from rfl, scratch_eq]
  iintro ⟨Hs, -, Hr⟩
  isplitl [Hs] <;> iassumption

theorem phi_end : (dats m 0 c).Φ (Fin.last cfg0.N)
    ⊢ iprop(iprop(shardsDone m c ∗ unscopedSems0 c) ∗ Pipeline.ownSems0 osem c ∗ Pipeline.scopedRest cfg0.spec c) := by
  rw [show (dats m 0 c).Φ (Fin.last cfg0.N) = given' m c from rfl, scratch_eq, ownSems0_eq, unscopedSems0_eq]
  unfold given'
  iintro ⟨Hs, Hr, Hd, Hb⟩
  isplitl [Hs Hb]
  · isplitl [Hs] <;> iassumption
  isplitl [Hd] <;> iassumption

/-- What a device's memory holds at the end. -/
def Final (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1))
    ∧ s.mem ((c.tc : Thread nD τ).loc main_v1) = outC m c

theorem read_whole (b : Ref sig .tc) (X : b.ty.Contents (Elt F)) (s' : Phys nD τ sig (Elt F)) :
    iprop(has c (Memref.whole b) fullShare X ∗ SI s') ⊢ (iprop(⌜s'.mem.mem ((c.tc : Thread nD τ).loc b) = X⌝ ∗ SI s') : sProp 𝕄) := by
  iintro ⟨H, HSI⟩
  ihave H := (Entails.of_eq (owns_whole (c.tc : Thread nD τ) b fullShare X)) $$ H
  ihave H := (pointsTo_read_all (Finset.univ : Finset Unit) (fun _ => (c.tc : Thread nD τ).loc b) (fun _ => X) s') $$ [H HSI]
  · isplitl [H]
    · rw [bigSep_univ_of_subsingleton ()]; iexact H
    · iexact HSI
  icases H with ⟨%h, HSI⟩
  isplitr; · ipureintro; exact h () (Finset.mem_univ _)
  iexact HSI

theorem read_end (s' : Phys nD τ sig (Elt F)) : iprop(iprop(shardsDone m c ∗ unscopedSems0 c) ∗ emp ∗ SI s')
    ⊢ (|={Set.univ}=> iprop(⌜Final m c s'.mem ∧ ∀ sm : SemLoc sig, sm.isScoped .tc = false → s'.mem.sem ((c.tc : Thread nD τ), sm) = 0⌝ ∗ SI s') : sProp 𝕄) := by
  unfold shardsDone
  iintro ⟨⟨⟨H0, H1, H2⟩, Hu⟩, -, HSI⟩
  ihave H := (read_whole c main_arg0 (dyA m c) s') $$ [H0 HSI]
  · isplitl [H0] <;> iassumption
  icases H with ⟨%h0, HSI⟩
  ihave H := (read_whole c main_arg1 (wA m c) s') $$ [H1 HSI]
  · isplitl [H1] <;> iassumption
  icases H with ⟨%h1, HSI⟩
  ihave H := (read_whole c main_v1 (outC m c) s') $$ [H2 HSI]
  · isplitl [H2] <;> iassumption
  icases H with ⟨%h2, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨⟨h0, h1⟩, h2⟩, hs⟩
  iexact HSI

set_option maxRecDepth 8000 in
/-- From any memory with every counter at zero: all devices run to the end, nothing faulting, each one's shards are
    unchanged, its result is `outC`, and every counter is at zero again. -/
theorem run_main : θ_run defs (onTc (τ := τ) (main (F := F))) ⟨m, fun _ => 0, ρ⟩ (fun r => (∀ c : Dev nD, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := made m) (G' := protocol m) (u₀ := u₀)
    (hu₀ := by
      unfold u₀
      iintro Hu
      ihave H := (ownU_pair _ _) $$ Hu
      icases H with ⟨HP, HX⟩
      ihave H := (own_pair_emb _ _ _) $$ HX
      icases H with ⟨HR, -⟩
      imod (show (BI.own ((Emb.inl.trans embR) (initOf ringCells ringToks)) : sProp 𝕄) ⊢ |==> bigSep Finset.univ (made m) from fund_ring m) $$ HR with HG
      imodintro
      isplitl [HP] <;> iassumption)
    (hglob := glob m)
    (hA := fun _ _ => rfl) (hpf := fun _ k => k.elim0)
    (X := start m) (Y := fun c => iprop(shardsDone m c ∗ unscopedSems0 c)) (Z := fun _ => iprop(emp))
    (hX := start_intro m ρ) (hin := phi_start m) (hout := phi_end m)
    (QY := fun c s => Final m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdeal
-- ==== Proof.Value.lean ====
/-
The value: over the extended reals the result of each device is the whole product, summed in another order.
-/
module

public import proofs.«01_k».proof.Defs
public import proofs.«01_k».proof.Proof.Ends
public import proofs.«01_k».proof.Proof.Gen.ReferenceIdeal
public import Idealize.ShloMosaic.Lib.StackMember
public import Idealize.ShloMosaic.Lib.Pipeline.Value
public import Idealize.ShloMosaic.Lib.Layout

@[expose] public section

noncomputable section

namespace Cert.KernelIdeal

open Idealize.ShloMosaic Idealize.ShloMosaic.TcCoe
open Idealize.ShloMosaic.ValueIdx
open Idealize.ShloMosaic.StackMember
open scoped BigOperators
open Facts₀ Facts

/-! ## One device's half of the contraction -/

section Device
variable (m : (ℓ : Loc nD τ sig) → Buf (Elt Ideal) ℓ) (d : Dev nD)

theorem wT_apply (k : Fin 8) (q : Fin 512) (j : Fin 1024) : wT m d k (ix2 q j) = wB m d k (ix2 j q) := by
  unfold wT tr
  rw [shapeCast_self, shapeCast_shapeCast]
  exact transpose_apply [1, 0] _ _ (ix2 q j) (ix2 j q) (fun b => by fin_cases b <;> rfl)

theorem mm_apply (x : Vec Ideal S512x512 .f32) (w : Vec Ideal S512x1024 .bf16) (i : Fin 512) (j : Fin 1024) :
    mm x w (ix2 i j) = ∑ q : Fin 512, x (ix2 i q) * w (ix2 q j) := by
  unfold mm
  rw [matmul_zero_eq_dotGeneral]
  exact dotGeneral_plain_apply none (m := 512) (n := 1024) x w i j

theorem mm64_apply (x : Vec Ideal S64x512 .f32) (w : Vec Ideal S512x1024 .bf16) (i : Fin 64) (j : Fin 1024) :
    mm64 x w (ix2 i j) = ∑ q : Fin 512, x (ix2 i q) * w (ix2 q j) := by
  unfold mm64
  rw [matmul_zero_eq_dotGeneral]
  exact dotGeneral_plain_apply none (m := 64) (n := 1024) x w i j

/-- What block `k` of a device's half of the contraction adds to an entry. -/
def blk (i : Fin 512) (j : Fin 1024) (k : Fin 8) : EReal := ∑ q : Fin 512, dyB m d k (ix2 i q) * wB m d k (ix2 j q)

theorem mm_blk (k : Fin 8) (i : Fin 512) (j : Fin 1024) : mm (dyB m d k) (wT m d k) (ix2 i j) = blk m d i j k := by
  rw [mm_apply]; exact Finset.sum_congr rfl fun q _ => by rw [wT_apply]

theorem accC_apply (n : ℕ) (i : Fin 512) (j : Fin 1024) :
    accC m d n (ix2 i j) = ∑ k ∈ Finset.range (n + 1), blk m d i j (Fin.ofNat 8 k) := by
  induction n with
  | zero =>
    rw [accC, shapeCast_self, mm_blk, Finset.sum_range_one]; rfl
  | succ n ih =>
    rw [accC, shapeCast_self, Finset.sum_range_succ, ← ih, ← mm_blk]; rfl

/-- Row `i` of chunk `r`. -/
def rowAt (r : Fin 8) (i : Fin 64) : Fin 512 := ⟨64 * r.val + i.val, by omega⟩

theorem pvC_apply (r : Fin 8) (i : Fin 64) (j : Fin 1024) : pvC m d r (ix2 i j) = ∑ k : Fin 8, blk m d (rowAt r i) j k := by
  have h1 : (rRow r).emb (ix2 i j) = ix2 (rowAt r i) j := by
    funext a; apply Fin.ext
    match a with
    | ⟨0, _⟩ => show 64 * r.val + 1 * i.val = 64 * r.val + i.val; omega
    | ⟨1, _⟩ => show 0 + 1 * j.val = j.val; omega
  have h2 (q : Fin 512) : (rSub r).emb (ix2 i q) = ix2 (rowAt r i) q := by
    funext a; apply Fin.ext
    match a with
    | ⟨0, _⟩ => show 64 * r.val + 1 * i.val = 64 * r.val + i.val; omega
    | ⟨1, _⟩ => show 0 + 1 * q.val = q.val; omega
  refine (congrFun (shapeCast_self (s := S64x1024) (α := EReal) _ _) (ix2 i j)).trans ?_
  show accC m d 6 ((rRow r).emb (ix2 i j)) + mm64 (fun j => dyB m d 7 ((rSub r).emb j)) (wT m d 7) (ix2 i j) = _
  rw [h1, accC_apply, mm64_apply, Finset.sum_range]
  refine Eq.trans ?_ (Fin.sum_univ_castSucc (n := 7) (fun k : Fin 8 => blk m d (rowAt r i) j k)).symm
  refine congrArg₂ (· + ·) (Finset.sum_congr rfl fun k _ => ?_) (Finset.sum_congr rfl fun q _ => ?_)
  · exact congrArg (blk m d (rowAt r i) j) (Fin.ext (Nat.mod_eq_of_lt (Nat.lt_succ_of_lt k.isLt)))
  · rw [h2, wT_apply]; rfl

theorem xsC_apply (r : Fin 8) (i : Fin 64) (j : Fin 1024) :
    xsC m d r (ix2 i j) = (∑ k : Fin 8, blk m d (rowAt r i) j k) + ∑ k : Fin 8, blk m (yp d) (rowAt r i) j k := by
  unfold xsC red
  rw [shapeCast_self, ← pvC_apply, ← pvC_apply]; rfl

end Device

/-! ## The whole contraction -/

/-- An entry of the whole product. -/
def whole (X W : (⟨2, ![1024, 8192]⟩ : Shape).Idx → EReal) (i j : Fin 1024) : EReal := ∑ q : Fin 8192, X (ix2 i q) * W (ix2 j q)

/-- What block `k` of sixteen adds to it. -/
def piece (X W : (⟨2, ![1024, 8192]⟩ : Shape).Idx → EReal) (i j : Fin 1024) (k : Fin 16) : EReal :=
  ∑ q : Fin 512, X (ix2 i ⟨512 * k.val + q.val, by omega⟩) * W (ix2 j ⟨512 * k.val + q.val, by omega⟩)

theorem whole_eq (X W : (⟨2, ![1024, 8192]⟩ : Shape).Idx → EReal) (i j : Fin 1024) : whole X W i j = ∑ k : Fin 16, piece X W i j k := by
  unfold whole piece
  rw [← Equiv.sum_comp (finProdFinEquiv (m := 16) (n := 512)), Fintype.sum_prod_type]
  refine Finset.sum_congr rfl fun k _ => Finset.sum_congr rfl fun q _ => ?_
  have h : finProdFinEquiv (k, q) = (⟨512 * k.val + q.val, by omega⟩ : Fin 8192) := Fin.ext (by simp [finProdFinEquiv, Nat.add_comm])
  rw [h]

/-- Block `k` of half `y`. -/
def seg (y : Fin 2) (k : Fin 8) : Fin 16 := ⟨8 * y.val + k.val, by omega⟩

theorem whole_halves (X W : (⟨2, ![1024, 8192]⟩ : Shape).Idx → EReal) (i j : Fin 1024) :
    whole X W i j = ∑ y : Fin 2, ∑ k : Fin 8, piece X W i j (seg y k) := by
  rw [whole_eq, ← Equiv.sum_comp (finProdFinEquiv (m := 2) (n := 8)), Fintype.sum_prod_type]
  refine Finset.sum_congr rfl fun y _ => Finset.sum_congr rfl fun k _ => ?_
  have h : finProdFinEquiv (y, k) = seg y k := Fin.ext (by simp [finProdFinEquiv, seg, Nat.add_comm])
  rw [h]

/-- Which half of the contraction a device holds. -/
def yOf (d : Dev nD) : Fin 2 := ⟨d.val % 2, Nat.mod_lt _ (by decide)⟩
theorem halves_sum (d : Dev nD) (f : Fin 2 → EReal) : f (yOf d) + f (yOf (yp d)) = ∑ y : Fin 2, f y := by
  rw [Fin.sum_univ_two]
  have h : ∀ d : Dev nD, (yOf d = 0 ∧ yOf (yp d) = 1) ∨ (yOf d = 1 ∧ yOf (yp d) = 0) := by decide
  rcases h d with ⟨h0, h1⟩ | ⟨h0, h1⟩
  · rw [h0, h1]
  · rw [h0, h1, add_comm]

/-! ## The result -/

section Result
variable (m : (ℓ : Loc nD τ sig) → Buf (Elt Ideal) ℓ) (X W : (⟨2, ![1024, 8192]⟩ : Shape).Idx → EReal)

/-- Every device's shards are its blocks of the whole arrays. -/
def Sharded : Prop := ∀ c : Dev nD,
  dyA m c = Layout.blockN ⟨2, ![1024, 4096]⟩ ⟨2, ![1024, 8192]⟩ (Layout.meshBlock [2, 2] ![[], [1]] c) X
    ∧ wA m c = Layout.blockN ⟨2, ![1024, 4096]⟩ ⟨2, ![1024, 8192]⟩ (Layout.meshBlock [2, 2] ![[], [1]] c) W

theorem block_idx : ∀ c : Dev nD, (Layout.meshBlock (n := 4) [2, 2] (![[], [1]] : Fin 2 → List Nat) c (by decide) 0).val = 0
    ∧ (Layout.meshBlock (n := 4) [2, 2] (![[], [1]] : Fin 2 → List Nat) c (by decide) 1).val = c.val % 2 := by decide

theorem block_at (c : Dev nD) (V : (⟨2, ![1024, 8192]⟩ : Shape).Idx → EReal) (i : Fin 1024) (q : Fin 4096) :
    (Layout.blockN ⟨2, ![1024, 4096]⟩ ⟨2, ![1024, 8192]⟩ (Layout.meshBlock [2, 2] ![[], [1]] c) V) (ix2 i q)
      = V (ix2 i ⟨4096 * (c.val % 2) + q.val, by omega⟩) := by
  rw [Layout.blockN_apply]
  refine congrArg V (funext fun a => Fin.ext ?_)
  rw [Layout.TilesN.idx_val]
  match a with
  | ⟨0, _⟩ =>
    show (Layout.meshBlock (n := 4) [2, 2] (![[], [1]] : Fin 2 → List Nat) c (by decide) 0).val * 1024 + i.val = i.val
    rw [(block_idx c).1, Nat.zero_mul, Nat.zero_add]
  | ⟨1, _⟩ =>
    show (Layout.meshBlock (n := 4) [2, 2] (![[], [1]] : Fin 2 → List Nat) c (by decide) 1).val * 4096 + q.val = 4096 * (c.val % 2) + q.val
    rw [(block_idx c).2, Nat.mul_comm]

/-- Row `i` of a device's half of the result. -/
def rowOfHalf (d : Dev nD) (i : Fin 512) : Fin 1024 := ⟨512 * (d.val / 2) + i.val, by have : d.val < 4 := d.isLt; omega⟩
theorem rowOfHalf_yp (d : Dev nD) (i : Fin 512) : rowOfHalf (yp d) i = rowOfHalf d i := by
  have h : ∀ d : Dev nD, (yp d).val / 2 = d.val / 2 := by decide
  apply Fin.ext
  show 512 * ((yp d).val / 2) + i.val = 512 * (d.val / 2) + i.val
  rw [h]

theorem blk_piece (h : Sharded m X W) (d : Dev nD) (i : Fin 512) (j : Fin 1024) (k : Fin 8) :
    blk m d i j k = piece X W (rowOfHalf d i) j (seg (yOf d) k) := by
  unfold blk piece
  refine Finset.sum_congr rfl fun q _ => ?_
  have hd : (rDy d k).emb (ix2 i q) = ix2 (rowOfHalf d i) ⟨512 * k.val + q.val, by omega⟩ := by
    funext a; apply Fin.ext
    have ho : dyOff d k = ![512 * (d.val / 2), 512 * k.val] := dyOff_eq d k
    match a with
    | ⟨0, _⟩ =>
      show dyOff d k 0 + 1 * i.val = 512 * (d.val / 2) + i.val
      rw [ho, Nat.one_mul]; rfl
    | ⟨1, _⟩ =>
      show dyOff d k 1 + 1 * q.val = 512 * k.val + q.val
      rw [ho, Nat.one_mul]; rfl
  have hw : (rWcol k).emb (ix2 j q) = ix2 j ⟨512 * k.val + q.val, by omega⟩ := by
    funext a; apply Fin.ext
    match a with
    | ⟨0, _⟩ => show 0 + 1 * j.val = j.val; omega
    | ⟨1, _⟩ => show 512 * k.val + 1 * q.val = 512 * k.val + q.val; omega
  have hq : (⟨4096 * (d.val % 2) + (512 * k.val + q.val), by omega⟩ : Fin 8192) = ⟨512 * (seg (yOf d) k).val + q.val, by omega⟩ := by
    apply Fin.ext; show 4096 * (d.val % 2) + (512 * k.val + q.val) = 512 * (8 * (d.val % 2) + k.val) + q.val; omega
  show dyA m d ((rDy d k).emb (ix2 i q)) * wA m d ((rWcol k).emb (ix2 j q)) = _
  rw [hd, hw, (h d).1, (h d).2, block_at, block_at]
  show X (ix2 _ (⟨4096 * (d.val % 2) + (512 * k.val + q.val), _⟩ : Fin 8192)) * W (ix2 _ (⟨4096 * (d.val % 2) + (512 * k.val + q.val), _⟩ : Fin 8192)) = _
  rw [hq]

theorem xsC_whole (h : Sharded m X W) (d : Dev nD) (r : Fin 8) (i : Fin 64) (j : Fin 1024) :
    xsC m d r (ix2 i j) = whole X W (rowOfHalf d (rowAt r i)) j := by
  rw [xsC_apply, whole_halves, ← halves_sum d]
  congr 1
  · exact Finset.sum_congr rfl fun k _ => blk_piece m X W h d _ j k
  · exact Finset.sum_congr rfl fun k _ => by rw [blk_piece m X W h, rowOfHalf_yp]

theorem outC_whole (h : Sharded m X W) (c : Dev nD) : outC m c = fun j => whole X W (j 0) (j 1) := by
  funext J
  obtain ⟨t, ht⟩ : ∃ t, J ∈ (rOut2 c t).set := ⟨_, (parts_Out c _ J).mpr rfl⟩
  rw [← Rect.map_emb_univ, Finset.mem_map] at ht
  obtain ⟨p, -, rfl⟩ := ht
  obtain ⟨i, j, rfl⟩ : ∃ (i : Fin 64) (j : Fin 1024), p = ix2 i j := ⟨p 0, p 1, eq_ix2 p⟩
  rw [show outC m c ((rOut2 c t).emb (ix2 i j)) = xsC m (halfAt c t.1) t.2 (ix2 i j) from congrFun (outC_emb m c t) _, xsC_whole m X W h]
  congr 1
  · apply Fin.ext
    show 512 * ((halfAt c t.1).val / 2) + (64 * t.2.val + i.val) = (512 * ((halfAt c t.1).val / 2) + 64 * t.2.val) + 1 * i.val
    omega
  · apply Fin.ext
    show j.val = 0 + 1 * j.val
    omega

end Result

/-! ## The reference -/

theorem reference_whole (X W : FVec Ideal ⟨2, ![1024, 8192]⟩ .f32) (ht : (⟨2, ![1024, 8192]⟩ : Shape).Transposes [1, 0] ⟨2, ![8192, 1024]⟩)
    (hb : FTy.bits .bf16 < FTy.bits .f32) :
    (truncf .bf16 (Host.dotGeneral ReferenceIdeal.dot_S1024x8192_S8192x1024_S1024x1024_1_0_0_1_n_n none X
      (transpose ⟨2, ![8192, 1024]⟩ [1, 0] W ht)) hb : FVec Ideal ⟨2, ![1024, 1024]⟩ .bf16) = fun j => whole X W (j 0) (j 1) := by
  funext J
  obtain ⟨i, j, rfl⟩ : ∃ i j : Fin 1024, J = ix2 i j := ⟨J 0, J 1, eq_ix2 J⟩
  refine (dotGeneral_plain_apply none (m := 1024) (n := 1024) X _ i j).trans (Finset.sum_congr rfl fun q _ => ?_)
  congr 1
  exact transpose_apply [1, 0] _ _ (ix2 q j) (ix2 j q) (fun b => by fin_cases b <;> rfl)

end Cert.KernelIdeal
-- ==== Proof.lean ====
/-
The five claims: both versions of the kernel and the reference run and leave everything in order, and the kernel's result
is the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The printed kernel runs, leaves its arguments as they were and every counter at zero. -/
theorem frame_kernel : Cert.quiescent_Kernel := fun m ρ _ =>
  (θ_run Cert.KernelIdeal.defs _ _).mono (fun _ h => ⟨fun c => (h.1 c).1, h.2⟩) (Cert.KernelIdeal.run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (Cert.KernelIdeal.run_main (F := Ideal) m ρ)

/-- The reference runs and leaves its arguments as they were. It has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- From the blocks of the reference's arguments, the kernel leaves the reference's result on every device. -/
theorem algebraic : Cert.algebraic_KernelIdeal_ReferenceIdeal := fun m g m' g' _ hm =>
  ⟨_, (θ_run Cert.KernelIdeal.defs _ _).mono
      (fun _ h c => ⟨((h.1 c).2.trans (Cert.KernelIdeal.outC_whole m _ _ hm c)).trans (Cert.KernelIdeal.reference_whole _ _ _ _).symm, (h.1 c).1⟩)
      (Cert.KernelIdeal.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts, frame_kernel, frame_kernelIdeal,
  frame_reference, trivial, algebraic⟩

end Cert.Proof

end
